-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_table [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_in_table [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel)
    ∧ quiescent_KernelIdeal (hKernelIdeal := hKernelIdeal)
    ∧ quiescent_KernelIdeal_pre_ids_in_table (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal_pre_ids_in_table (hKernelIdeal := hKernelIdeal) (hReferenceIdeal := hReferenceIdeal) (hPre_ids_in_table := hPre_ids_in_table)
-- ==== Pre_ids_in_table.lean ====
abbrev S100000x129 : Shape := ⟨2, ![100000, 129]⟩
abbrev S101x256 : Shape := ⟨2, ![101, 256]⟩
abbrev S384x256 : Shape := ⟨2, ![384, 256]⟩
abbrev S256 : Shape := ⟨1, ![256]⟩
abbrev S100000x1 : Shape := ⟨2, ![100000, 1]⟩
abbrev S100000 : Shape := ⟨1, ![100000]⟩
abbrev S_ : Shape := ⟨0, ![]⟩

class Facts : Prop where
  slices_S100000x129_S100000x1_0_0 : S100000x129.Slices ![0, 0] S100000x1
  shapeCasts_S100000x1_S100000 : S100000x1.ShapeCasts S100000
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x129 .f32) (main_arg1 : FVec F S101x256 .f32) (main_arg2 : FVec F S384x256 .f32) (main_arg3 : FVec F S256 .f32) : IVec S_ 1 :=
  let main_v0 : FVec F S100000x1 .f32 := (extractStridedSlice S100000x1 ![0, 0] · slices_S100000x129_S100000x1_0_0) main_arg0
  let main_v1 : FVec F S100000 .f32 := shapeCast S100000 main_v0 shapeCasts_S100000x1_S100000
  let main_v2 : IVec S100000 32 := fptosi 32 main_v1
  let main_c : IVec S_ 32 := constantI S_ 32 0#32
  let main_v3 : IVec S100000 32 := broadcastInDim S100000 ![] bcast_S_S100000 main_c
  let main_v4 : IVec S100000 1 := cmpi .sge main_v2 main_v3
  let main_c_0 : IVec S_ 32 := constantI S_ 32 100#32
  let main_v5 : IVec S100000 32 := broadcastInDim S100000 ![] bcast_S_S100000 main_c_0
  let main_v6 : IVec S100000 1 := cmpi .sle main_v2 main_v5
  let main_v7 : IVec S100000 1 := andi main_v4 main_v6
  let main_c_1 : IVec S_ 1 := constantI S_ 1 1#1
  let main_v8 : IVec S_ 1 := (fun x v => Host.reduce IntOp.andi x v reducesTo_S100000_S_d0 h_S_) main_v7 main_c_1
  main_v8
-- ==== Kernel.lean ====
abbrev S100000x129 : Shape := ⟨2, ![100000, 129]⟩
abbrev S101x256 : Shape := ⟨2, ![101, 256]⟩
abbrev S384x256 : Shape := ⟨2, ![384, 256]⟩
abbrev S256 : Shape := ⟨1, ![256]⟩
abbrev S_ : Shape := ⟨0, ![]⟩
abbrev S128x256 : Shape := ⟨2, ![128, 256]⟩
abbrev S1 : Shape := ⟨1, ![1]⟩
abbrev S256x256 : Shape := ⟨2, ![256, 256]⟩
abbrev S1x256 : Shape := ⟨2, ![1, 256]⟩
abbrev S100000x256 : Shape := ⟨2, ![100000, 256]⟩
abbrev S3x10000x129 : Shape := ⟨3, ![3, 10000, 129]⟩
abbrev S2x10000x256 : Shape := ⟨3, ![2, 10000, 256]⟩
abbrev S3 : Shape := ⟨1, ![3]⟩
abbrev S2 : Shape := ⟨1, ![2]⟩
abbrev S1x5000x129 : Shape := ⟨3, ![1, 5000, 129]⟩
abbrev S5000x129 : Shape := ⟨2, ![5000, 129]⟩
abbrev S10000x256 : Shape := ⟨2, ![10000, 256]⟩
abbrev S1x10000x256 : Shape := ⟨3, ![1, 10000, 256]⟩
abbrev S1x10000x129 : Shape := ⟨3, ![1, 10000, 129]⟩
abbrev S10000x129 : Shape := ⟨2, ![10000, 129]⟩
abbrev S10000x1 : Shape := ⟨2, ![10000, 1]⟩
abbrev S10000x128 : Shape := ⟨2, ![10000, 128]⟩

abbrev nBuf : Space → Nat
  | .hbm => 14
  | .vmem => 7
  | .smem => 0
  | _ => 0

abbrev bufTy : (tb : Table) → Fin (tcTables nBuf tb) → BufTy
  | .hbm, ⟨0, _⟩ => ⟨S100000x129, .f32⟩
  | .hbm, ⟨1, _⟩ => ⟨S101x256, .f32⟩
  | .hbm, ⟨2, _⟩ => ⟨S384x256, .f32⟩
  | .hbm, ⟨3, _⟩ => ⟨S256, .f32⟩
  | .hbm, ⟨4, _⟩ => ⟨S_, .f32⟩
  | .hbm, ⟨5, _⟩ => ⟨S128x256, .f32⟩
  | .hbm, ⟨6, _⟩ => ⟨S_, .i32⟩
  | .hbm, ⟨7, _⟩ => ⟨S1, .i32⟩
  | .hbm, ⟨8, _⟩ => ⟨S128x256, .f32⟩
  | .hbm, ⟨9, _⟩ => ⟨S256x256, .f32⟩
  | .hbm, ⟨10, _⟩ => ⟨S128x256, .f32⟩
  | .hbm, ⟨11, _⟩ => ⟨S128x256, .bf16⟩
  | .hbm, ⟨12, _⟩ => ⟨S1x256, .f32⟩
  | .hbm, ⟨13, _⟩ => ⟨S100000x256, .f32⟩
  | .local _ .vmem, ⟨0, _⟩ => ⟨S3x10000x129, .f32⟩
  | .local _ .vmem, ⟨1, _⟩ => ⟨S2x10000x256, .f32⟩
  | .local _ .vmem, ⟨2, _⟩ => ⟨S128x256, .f32⟩
  | .local _ .vmem, ⟨3, _⟩ => ⟨S256x256, .f32⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | _, _ => ⟨S100000x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := ⟨1, ![10], ![false]⟩

def k0_off1 (i : grid0.Coords) : Fin 1 → Nat :=
  let arg0 : BitVec 32 := BitVec.ofNat 32 (i 0).val
  let c3_i32_5 : BitVec 32 := 3#32
  let c0_i32_6 : BitVec 32 := 0#32
  let v14 : BitVec 1 := Scalar.cmpi .eq c3_i32_5 c0_i32_6
  let c1_i32_7 : BitVec 32 := 1#32
  let v15 : BitVec 32 := Scalar.select v14 c1_i32_7 c3_i32_5
  let v16 : BitVec 32 := Scalar.remsi arg0 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  ![v23.toNat]
def k0_off2 (i : grid0.Coords) : Fin 3 → Nat :=
  let arg0 : BitVec 32 := BitVec.ofNat 32 (i 0).val
  let c3_i32 : BitVec 32 := 3#32
  let c0_i32_1 : BitVec 32 := 0#32
  let v4 : BitVec 1 := Scalar.cmpi .eq c3_i32 c0_i32_1
  let c1_i32 : BitVec 32 := 1#32
  let v5 : BitVec 32 := Scalar.select v4 c1_i32 c3_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_11 : BitVec 32 := 0#32
  let c0_i32_12 : BitVec 32 := 0#32
  ![v13.toNat, 0, 0]
def k0_off3 (i : grid0.Coords) : Fin 2 → Nat :=
  let arg0 : BitVec 32 := BitVec.ofNat 32 (i 0).val
  let c10000_i32 : BitVec 32 := 10000#32
  let v3 : BitVec 32 := Scalar.muli arg0 c10000_i32
  let c0_i32_13 : BitVec 32 := 0#32
  ![v3.toNat, 0]
def k0_off4 (i : grid0.Coords) : Fin 3 → Nat :=
  let arg0 : BitVec 32 := BitVec.ofNat 32 (i 0).val
  let c3_i32_15 : BitVec 32 := 3#32
  let c0_i32_16 : BitVec 32 := 0#32
  let v31 : BitVec 1 := Scalar.cmpi .eq c3_i32_15 c0_i32_16
  let c1_i32_17 : BitVec 32 := 1#32
  let v32 : BitVec 32 := Scalar.select v31 c1_i32_17 c3_i32_15
  let v33 : BitVec 32 := Scalar.remsi arg0 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c5000_i32_27 : BitVec 32 := 5000#32
  let c0_i32_28 : BitVec 32 := 0#32
  ![v40.toNat, 5000, 0]
def k0_off5 (i : grid0.Coords) : Fin 2 → Nat :=
  let arg0 : BitVec 32 := BitVec.ofNat 32 (i 0).val
  let c10000_i32_14 : BitVec 32 := 10000#32
  let v29 : BitVec 32 := Scalar.muli arg0 c10000_i32_14
  let c5000_i32 : BitVec 32 := 5000#32
  let v30 : BitVec 32 := Scalar.addi v29 c5000_i32
  let c0_i32_29 : BitVec 32 := 0#32
  ![v30.toNat, 0]
def k0_cond2 (i : grid0.Coords) : BitVec 1 :=
  let arg0 : BitVec 32 := BitVec.ofNat 32 (i 0).val
  let c2_i32 : BitVec 32 := 2#32
  let v56 : BitVec 1 := Scalar.cmpi .sge arg0 c2_i32
  let v57 : BitVec 32 := Scalar.extui v56
  let c0_i32_30 : BitVec 32 := 0#32
  let v58 : BitVec 1 := Scalar.cmpi .ne v57 c0_i32_30
  v58

def k0_off6 (i : grid0.Coords) : Fin 1 → Nat :=
  let arg0 : BitVec 32 := BitVec.ofNat 32 (i 0).val
  let c2_i32_75 : BitVec 32 := 2#32
  let v135 : BitVec 32 := Scalar.subi arg0 c2_i32_75
  let c2_i32_83 : BitVec 32 := 2#32
  let c0_i32_84 : BitVec 32 := 0#32
  let v147 : BitVec 1 := Scalar.cmpi .eq c2_i32_83 c0_i32_84
  let c1_i32_85 : BitVec 32 := 1#32
  let v148 : BitVec 32 := Scalar.select v147 c1_i32_85 c2_i32_83
  let v149 : BitVec 32 := Scalar.remsi v135 v148
  let c0_i32_87 : BitVec 32 := 0#32
  let v151 : BitVec 1 := Scalar.cmpi .slt v149 c0_i32_87
  let c0_i32_88 : BitVec 32 := 0#32
  let v152 : BitVec 1 := Scalar.cmpi .slt v148 c0_i32_88
  let v153 : BitVec 1 := Scalar.xori v151 v152
  let c0_i32_86 : BitVec 32 := 0#32
  let v150 : BitVec 1 := Scalar.cmpi .ne v149 c0_i32_86
  let v154 : BitVec 1 := Scalar.andi v153 v150
  let v155 : BitVec 32 := Scalar.addi v149 v148
  let v156 : BitVec 32 := Scalar.select v154 v155 v149
  ![v156.toNat]
def k0_off7 (i : grid0.Coords) : Fin 2 → Nat :=
  let arg0 : BitVec 32 := BitVec.ofNat 32 (i 0).val
  let c2_i32_75 : BitVec 32 := 2#32
  let v135 : BitVec 32 := Scalar.subi arg0 c2_i32_75
  let c10000_i32_82 : BitVec 32 := 10000#32
  let v146 : BitVec 32 := Scalar.muli v135 c10000_i32_82
  let c0_i32_89 : BitVec 32 := 0#32
  ![v146.toNat, 0]
def k0_off8 (i : grid0.Coords) : Fin 3 → Nat :=
  let arg0 : BitVec 32 := BitVec.ofNat 32 (i 0).val
  let c2_i32_75 : BitVec 32 := 2#32
  let v135 : BitVec 32 := Scalar.subi arg0 c2_i32_75
  let c2_i32_76 : BitVec 32 := 2#32
  let c0_i32_77 : BitVec 32 := 0#32
  let v136 : BitVec 1 := Scalar.cmpi .eq c2_i32_76 c0_i32_77
  let c1_i32_78 : BitVec 32 := 1#32
  let v137 : BitVec 32 := Scalar.select v136 c1_i32_78 c2_i32_76
  let v138 : BitVec 32 := Scalar.remsi v135 v137
  let c0_i32_80 : BitVec 32 := 0#32
  let v140 : BitVec 1 := Scalar.cmpi .slt v138 c0_i32_80
  let c0_i32_81 : BitVec 32 := 0#32
  let v141 : BitVec 1 := Scalar.cmpi .slt v137 c0_i32_81
  let v142 : BitVec 1 := Scalar.xori v140 v141
  let c0_i32_79 : BitVec 32 := 0#32
  let v139 : BitVec 1 := Scalar.cmpi .ne v138 c0_i32_79
  let v143 : BitVec 1 := Scalar.andi v142 v139
  let v144 : BitVec 32 := Scalar.addi v138 v137
  let v145 : BitVec 32 := Scalar.select v143 v144 v138
  let c0_i32_90 : BitVec 32 := 0#32
  let c0_i32_91 : BitVec 32 := 0#32
  ![v145.toNat, 0, 0]
def k0_off9 (i : grid0.Coords) : Fin 3 → Nat :=
  let arg0 : BitVec 32 := BitVec.ofNat 32 (i 0).val
  let c3_i32_31 : BitVec 32 := 3#32
  let c0_i32_32 : BitVec 32 := 0#32
  let v59 : BitVec 1 := Scalar.cmpi .eq c3_i32_31 c0_i32_32
  let c1_i32_33 : BitVec 32 := 1#32
  let v60 : BitVec 32 := Scalar.select v59 c1_i32_33 c3_i32_31
  let v61 : BitVec 32 := Scalar.remsi arg0 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let c0_i32_37 : BitVec 32 := 0#32
  let c0_i32_38 : BitVec 32 := 0#32
  ![v68.toNat, 0, 0]
def k0_off10 (i : grid0.Coords) : Fin 3 → Nat :=
  let arg0 : BitVec 32 := BitVec.ofNat 32 (i 0).val
  let c2_i32_48 : BitVec 32 := 2#32
  let c0_i32_49 : BitVec 32 := 0#32
  let v88 : BitVec 1 := Scalar.cmpi .eq c2_i32_48 c0_i32_49
  let c1_i32_50 : BitVec 32 := 1#32
  let v89 : BitVec 32 := Scalar.select v88 c1_i32_50 c2_i32_48
  let v90 : BitVec 32 := Scalar.remsi arg0 v89
  let c0_i32_52 : BitVec 32 := 0#32
  let v92 : BitVec 1 := Scalar.cmpi .slt v90 c0_i32_52
  let c0_i32_53 : BitVec 32 := 0#32
  let v93 : BitVec 1 := Scalar.cmpi .slt v89 c0_i32_53
  let v94 : BitVec 1 := Scalar.xori v92 v93
  let c0_i32_51 : BitVec 32 := 0#32
  let v91 : BitVec 1 := Scalar.cmpi .ne v90 c0_i32_51
  let v95 : BitVec 1 := Scalar.andi v94 v91
  let v96 : BitVec 32 := Scalar.addi v90 v89
  let v97 : BitVec 32 := Scalar.select v95 v96 v90
  let v98 : Index := Scalar.indexCast v97
  let c0_54 : Index := 0#32
  let c0_55 : Index := 0#32
  ![v98.toNat, 0, 0]
def k0_off11 (i : grid0.Coords) : Fin 1 → Nat :=
  let arg0 : BitVec 32 := BitVec.ofNat 32 (i 0).val
  let c2_i32_63 : BitVec 32 := 2#32
  let c0_i32_64 : BitVec 32 := 0#32
  let v113 : BitVec 1 := Scalar.cmpi .eq c2_i32_63 c0_i32_64
  let c1_i32_65 : BitVec 32 := 1#32
  let v114 : BitVec 32 := Scalar.select v113 c1_i32_65 c2_i32_63
  let v115 : BitVec 32 := Scalar.remsi arg0 v114
  let c0_i32_67 : BitVec 32 := 0#32
  let v117 : BitVec 1 := Scalar.cmpi .slt v115 c0_i32_67
  let c0_i32_68 : BitVec 32 := 0#32
  let v118 : BitVec 1 := Scalar.cmpi .slt v114 c0_i32_68
  let v119 : BitVec 1 := Scalar.xori v117 v118
  let c0_i32_66 : BitVec 32 := 0#32
  let v116 : BitVec 1 := Scalar.cmpi .ne v115 c0_i32_66
  let v120 : BitVec 1 := Scalar.andi v119 v116
  let v121 : BitVec 32 := Scalar.addi v115 v114
  let v122 : BitVec 32 := Scalar.select v120 v121 v115
  ![v122.toNat]
def k0_off12 (i : grid0.Coords) : Fin 2 → Nat :=
  let arg0 : BitVec 32 := BitVec.ofNat 32 (i 0).val
  let c10000_i32_62 : BitVec 32 := 10000#32
  let v112 : BitVec 32 := Scalar.muli arg0 c10000_i32_62
  let c0_i32_69 : BitVec 32 := 0#32
  ![v112.toNat, 0]
def k0_off13 (i : grid0.Coords) : Fin 3 → Nat :=
  let arg0 : BitVec 32 := BitVec.ofNat 32 (i 0).val
  let c2_i32_56 : BitVec 32 := 2#32
  let c0_i32_57 : BitVec 32 := 0#32
  let v102 : BitVec 1 := Scalar.cmpi .eq c2_i32_56 c0_i32_57
  let c1_i32_58 : BitVec 32 := 1#32
  let v103 : BitVec 32 := Scalar.select v102 c1_i32_58 c2_i32_56
  let v104 : BitVec 32 := Scalar.remsi arg0 v103
  let c0_i32_60 : BitVec 32 := 0#32
  let v106 : BitVec 1 := Scalar.cmpi .slt v104 c0_i32_60
  let c0_i32_61 : BitVec 32 := 0#32
  let v107 : BitVec 1 := Scalar.cmpi .slt v103 c0_i32_61
  let v108 : BitVec 1 := Scalar.xori v106 v107
  let c0_i32_59 : BitVec 32 := 0#32
  let v105 : BitVec 1 := Scalar.cmpi .ne v104 c0_i32_59
  let v109 : BitVec 1 := Scalar.andi v108 v105
  let v110 : BitVec 32 := Scalar.addi v104 v103
  let v111 : BitVec 32 := Scalar.select v109 v110 v104
  let c0_i32_70 : BitVec 32 := 0#32
  let c0_i32_71 : BitVec 32 := 0#32
  ![v111.toNat, 0, 0]
def k0_cond3 (i : grid0.Coords) : BitVec 1 :=
  let arg0 : BitVec 32 := BitVec.ofNat 32 (i 0).val
  let c2_i32_72 : BitVec 32 := 2#32
  let v128 : BitVec 32 := Scalar.addi arg0 c2_i32_72
  let c10_i32 : BitVec 32 := 10#32
  let v129 : BitVec 1 := Scalar.cmpi .slt v128 c10_i32
  let v130 : BitVec 32 := Scalar.extui v129
  let c0_i32_73 : BitVec 32 := 0#32
  let v131 : BitVec 1 := Scalar.cmpi .ne v130 c0_i32_73
  v131

def k0_off14 (i : grid0.Coords) : Fin 1 → Nat :=
  let arg0 : BitVec 32 := BitVec.ofNat 32 (i 0).val
  let c2_i32_75 : BitVec 32 := 2#32
  let v135 : BitVec 32 := Scalar.addi arg0 c2_i32_75
  let c3_i32_83 : BitVec 32 := 3#32
  let c0_i32_84 : BitVec 32 := 0#32
  let v147 : BitVec 1 := Scalar.cmpi .eq c3_i32_83 c0_i32_84
  let c1_i32_85 : BitVec 32 := 1#32
  let v148 : BitVec 32 := Scalar.select v147 c1_i32_85 c3_i32_83
  let v149 : BitVec 32 := Scalar.remsi v135 v148
  let c0_i32_87 : BitVec 32 := 0#32
  let v151 : BitVec 1 := Scalar.cmpi .slt v149 c0_i32_87
  let c0_i32_88 : BitVec 32 := 0#32
  let v152 : BitVec 1 := Scalar.cmpi .slt v148 c0_i32_88
  let v153 : BitVec 1 := Scalar.xori v151 v152
  let c0_i32_86 : BitVec 32 := 0#32
  let v150 : BitVec 1 := Scalar.cmpi .ne v149 c0_i32_86
  let v154 : BitVec 1 := Scalar.andi v153 v150
  let v155 : BitVec 32 := Scalar.addi v149 v148
  let v156 : BitVec 32 := Scalar.select v154 v155 v149
  ![v156.toNat]
def k0_off15 (i : grid0.Coords) : Fin 3 → Nat :=
  let arg0 : BitVec 32 := BitVec.ofNat 32 (i 0).val
  let c2_i32_75 : BitVec 32 := 2#32
  let v135 : BitVec 32 := Scalar.addi arg0 c2_i32_75
  let c3_i32_77 : BitVec 32 := 3#32
  let c0_i32_78 : BitVec 32 := 0#32
  let v137 : BitVec 1 := Scalar.cmpi .eq c3_i32_77 c0_i32_78
  let c1_i32_79 : BitVec 32 := 1#32
  let v138 : BitVec 32 := Scalar.select v137 c1_i32_79 c3_i32_77
  let v139 : BitVec 32 := Scalar.remsi v135 v138
  let c0_i32_81 : BitVec 32 := 0#32
  let v141 : BitVec 1 := Scalar.cmpi .slt v139 c0_i32_81
  let c0_i32_82 : BitVec 32 := 0#32
  let v142 : BitVec 1 := Scalar.cmpi .slt v138 c0_i32_82
  let v143 : BitVec 1 := Scalar.xori v141 v142
  let c0_i32_80 : BitVec 32 := 0#32
  let v140 : BitVec 1 := Scalar.cmpi .ne v139 c0_i32_80
  let v144 : BitVec 1 := Scalar.andi v143 v140
  let v145 : BitVec 32 := Scalar.addi v139 v138
  let v146 : BitVec 32 := Scalar.select v144 v145 v139
  let c0_i32_89 : BitVec 32 := 0#32
  let c0_i32_90 : BitVec 32 := 0#32
  ![v146.toNat, 0, 0]
def k0_off16 (i : grid0.Coords) : Fin 2 → Nat :=
  let arg0 : BitVec 32 := BitVec.ofNat 32 (i 0).val
  let c2_i32_75 : BitVec 32 := 2#32
  let v135 : BitVec 32 := Scalar.addi arg0 c2_i32_75
  let c10000_i32_76 : BitVec 32 := 10000#32
  let v136 : BitVec 32 := Scalar.muli v135 c10000_i32_76
  let c0_i32_91 : BitVec 32 := 0#32
  ![v136.toNat, 0]
def k0_off17 (i : grid0.Coords) : Fin 3 → Nat :=
  let arg0 : BitVec 32 := BitVec.ofNat 32 (i 0).val
  let c2_i32_75 : BitVec 32 := 2#32
  let v135 : BitVec 32 := Scalar.addi arg0 c2_i32_75
  let c3_i32_94 : BitVec 32 := 3#32
  let c0_i32_95 : BitVec 32 := 0#32
  let v164 : BitVec 1 := Scalar.cmpi .eq c3_i32_94 c0_i32_95
  let c1_i32_96 : BitVec 32 := 1#32
  let v165 : BitVec 32 := Scalar.select v164 c1_i32_96 c3_i32_94
  let v166 : BitVec 32 := Scalar.remsi v135 v165
  let c0_i32_98 : BitVec 32 := 0#32
  let v168 : BitVec 1 := Scalar.cmpi .slt v166 c0_i32_98
  let c0_i32_99 : BitVec 32 := 0#32
  let v169 : BitVec 1 := Scalar.cmpi .slt v165 c0_i32_99
  let v170 : BitVec 1 := Scalar.xori v168 v169
  let c0_i32_97 : BitVec 32 := 0#32
  let v167 : BitVec 1 := Scalar.cmpi .ne v166 c0_i32_97
  let v171 : BitVec 1 := Scalar.andi v170 v167
  let v172 : BitVec 32 := Scalar.addi v166 v165
  let v173 : BitVec 32 := Scalar.select v171 v172 v166
  let c5000_i32_106 : BitVec 32 := 5000#32
  let c0_i32_107 : BitVec 32 := 0#32
  ![v173.toNat, 5000, 0]
def k0_off18 (i : grid0.Coords) : Fin 2 → Nat :=
  let arg0 : BitVec 32 := BitVec.ofNat 32 (i 0).val
  let c2_i32_75 : BitVec 32 := 2#32
  let v135 : BitVec 32 := Scalar.addi arg0 c2_i32_75
  let c10000_i32_92 : BitVec 32 := 10000#32
  let v162 : BitVec 32 := Scalar.muli v135 c10000_i32_92
  let c5000_i32_93 : BitVec 32 := 5000#32
  let v163 : BitVec 32 := Scalar.addi v162 c5000_i32_93
  let c0_i32_108 : BitVec 32 := 0#32
  ![v163.toNat, 0]
def k0_cond4 (i : grid0.Coords) : BitVec 1 :=
  let arg0 : BitVec 32 := BitVec.ofNat 32 (i 0).val
  let c9_i32 : BitVec 32 := 9#32
  let v132 : BitVec 1 := Scalar.cmpi .eq arg0 c9_i32
  let v133 : BitVec 32 := Scalar.extui v132
  let c0_i32_74 : BitVec 32 := 0#32
  let v134 : BitVec 1 := Scalar.cmpi .ne v133 c0_i32_74
  v134

def k0_off19 (i : grid0.Coords) : Fin 1 → Nat :=
  let arg0 : BitVec 32 := BitVec.ofNat 32 (i 0).val
  let c1_i32_75 : BitVec 32 := 1#32
  let v135 : BitVec 32 := Scalar.subi arg0 c1_i32_75
  let c2_i32_83 : BitVec 32 := 2#32
  let c0_i32_84 : BitVec 32 := 0#32
  let v147 : BitVec 1 := Scalar.cmpi .eq c2_i32_83 c0_i32_84
  let c1_i32_85 : BitVec 32 := 1#32
  let v148 : BitVec 32 := Scalar.select v147 c1_i32_85 c2_i32_83
  let v149 : BitVec 32 := Scalar.remsi v135 v148
  let c0_i32_87 : BitVec 32 := 0#32
  let v151 : BitVec 1 := Scalar.cmpi .slt v149 c0_i32_87
  let c0_i32_88 : BitVec 32 := 0#32
  let v152 : BitVec 1 := Scalar.cmpi .slt v148 c0_i32_88
  let v153 : BitVec 1 := Scalar.xori v151 v152
  let c0_i32_86 : BitVec 32 := 0#32
  let v150 : BitVec 1 := Scalar.cmpi .ne v149 c0_i32_86
  let v154 : BitVec 1 := Scalar.andi v153 v150
  let v155 : BitVec 32 := Scalar.addi v149 v148
  let v156 : BitVec 32 := Scalar.select v154 v155 v149
  ![v156.toNat]
def k0_off20 (i : grid0.Coords) : Fin 2 → Nat :=
  let arg0 : BitVec 32 := BitVec.ofNat 32 (i 0).val
  let c1_i32_75 : BitVec 32 := 1#32
  let v135 : BitVec 32 := Scalar.subi arg0 c1_i32_75
  let c10000_i32_82 : BitVec 32 := 10000#32
  let v146 : BitVec 32 := Scalar.muli v135 c10000_i32_82
  let c0_i32_89 : BitVec 32 := 0#32
  ![v146.toNat, 0]
def k0_off21 (i : grid0.Coords) : Fin 3 → Nat :=
  let arg0 : BitVec 32 := BitVec.ofNat 32 (i 0).val
  let c1_i32_75 : BitVec 32 := 1#32
  let v135 : BitVec 32 := Scalar.subi arg0 c1_i32_75
  let c2_i32_76 : BitVec 32 := 2#32
  let c0_i32_77 : BitVec 32 := 0#32
  let v136 : BitVec 1 := Scalar.cmpi .eq c2_i32_76 c0_i32_77
  let c1_i32_78 : BitVec 32 := 1#32
  let v137 : BitVec 32 := Scalar.select v136 c1_i32_78 c2_i32_76
  let v138 : BitVec 32 := Scalar.remsi v135 v137
  let c0_i32_80 : BitVec 32 := 0#32
  let v140 : BitVec 1 := Scalar.cmpi .slt v138 c0_i32_80
  let c0_i32_81 : BitVec 32 := 0#32
  let v141 : BitVec 1 := Scalar.cmpi .slt v137 c0_i32_81
  let v142 : BitVec 1 := Scalar.xori v140 v141
  let c0_i32_79 : BitVec 32 := 0#32
  let v139 : BitVec 1 := Scalar.cmpi .ne v138 c0_i32_79
  let v143 : BitVec 1 := Scalar.andi v142 v139
  let v144 : BitVec 32 := Scalar.addi v138 v137
  let v145 : BitVec 32 := Scalar.select v143 v144 v138
  let c0_i32_90 : BitVec 32 := 0#32
  let c0_i32_91 : BitVec 32 := 0#32
  ![v145.toNat, 0, 0]
def k0_off22 (i : grid0.Coords) : Fin 1 → Nat :=
  let arg0 : BitVec 32 := BitVec.ofNat 32 (i 0).val
  let c2_i32_99 : BitVec 32 := 2#32
  let c0_i32_100 : BitVec 32 := 0#32
  let v173 : BitVec 1 := Scalar.cmpi .eq c2_i32_99 c0_i32_100
  let c1_i32_101 : BitVec 32 := 1#32
  let v174 : BitVec 32 := Scalar.select v173 c1_i32_101 c2_i32_99
  let v175 : BitVec 32 := Scalar.remsi arg0 v174
  let c0_i32_103 : BitVec 32 := 0#32
  let v177 : BitVec 1 := Scalar.cmpi .slt v175 c0_i32_103
  let c0_i32_104 : BitVec 32 := 0#32
  let v178 : BitVec 1 := Scalar.cmpi .slt v174 c0_i32_104
  let v179 : BitVec 1 := Scalar.xori v177 v178
  let c0_i32_102 : BitVec 32 := 0#32
  let v176 : BitVec 1 := Scalar.cmpi .ne v175 c0_i32_102
  let v180 : BitVec 1 := Scalar.andi v179 v176
  let v181 : BitVec 32 := Scalar.addi v175 v174
  let v182 : BitVec 32 := Scalar.select v180 v181 v175
  ![v182.toNat]
def k0_off23 (i : grid0.Coords) : Fin 2 → Nat :=
  let arg0 : BitVec 32 := BitVec.ofNat 32 (i 0).val
  let c10000_i32_98 : BitVec 32 := 10000#32
  let v172 : BitVec 32 := Scalar.muli arg0 c10000_i32_98
  let c0_i32_105 : BitVec 32 := 0#32
  ![v172.toNat, 0]
def k0_off24 (i : grid0.Coords) : Fin 3 → Nat :=
  let arg0 : BitVec 32 := BitVec.ofNat 32 (i 0).val
  let c2_i32_92 : BitVec 32 := 2#32
  let c0_i32_93 : BitVec 32 := 0#32
  let v162 : BitVec 1 := Scalar.cmpi .eq c2_i32_92 c0_i32_93
  let c1_i32_94 : BitVec 32 := 1#32
  let v163 : BitVec 32 := Scalar.select v162 c1_i32_94 c2_i32_92
  let v164 : BitVec 32 := Scalar.remsi arg0 v163
  let c0_i32_96 : BitVec 32 := 0#32
  let v166 : BitVec 1 := Scalar.cmpi .slt v164 c0_i32_96
  let c0_i32_97 : BitVec 32 := 0#32
  let v167 : BitVec 1 := Scalar.cmpi .slt v163 c0_i32_97
  let v168 : BitVec 1 := Scalar.xori v166 v167
  let c0_i32_95 : BitVec 32 := 0#32
  let v165 : BitVec 1 := Scalar.cmpi .ne v164 c0_i32_95
  let v169 : BitVec 1 := Scalar.andi v168 v165
  let v170 : BitVec 32 := Scalar.addi v164 v163
  let v171 : BitVec 32 := Scalar.select v169 v170 v164
  let c0_i32_106 : BitVec 32 := 0#32
  let c0_i32_107 : BitVec 32 := 0#32
  ![v171.toNat, 0, 0]
-- ==== ReferenceIdeal.lean ====
abbrev S100000x129 : Shape := ⟨2, ![100000, 129]⟩
abbrev S101x256 : Shape := ⟨2, ![101, 256]⟩
abbrev S384x256 : Shape := ⟨2, ![384, 256]⟩
abbrev S256 : Shape := ⟨1, ![256]⟩
abbrev S100000x1 : Shape := ⟨2, ![100000, 1]⟩
abbrev S100000 : Shape := ⟨1, ![100000]⟩
abbrev S_ : Shape := ⟨0, ![]⟩
abbrev S1 : Shape := ⟨1, ![1]⟩
abbrev S1x1 : Shape := ⟨2, ![1, 1]⟩
abbrev S100000x256 : Shape := ⟨2, ![100000, 256]⟩
abbrev S100000x128 : Shape := ⟨2, ![100000, 128]⟩
abbrev S100000x384 : Shape := ⟨2, ![100000, 384]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S100000x129, .f32⟩
  | .hbm, ⟨1, _⟩ => ⟨S101x256, .f32⟩
  | .hbm, ⟨2, _⟩ => ⟨S384x256, .f32⟩
  | .hbm, ⟨3, _⟩ => ⟨S256, .f32⟩
  | .hbm, ⟨4, _⟩ => ⟨S100000x1, .f32⟩
  | .hbm, ⟨5, _⟩ => ⟨S100000, .f32⟩
  | .hbm, ⟨6, _⟩ => ⟨S100000, .i32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S1, .i32⟩
  | .hbm, ⟨16, _⟩ => ⟨S_, .i32⟩
  | .hbm, ⟨17, _⟩ => ⟨S100000x1, .i32⟩
  | .hbm, ⟨18, _⟩ => ⟨S100000x1, .i1⟩
  | .hbm, ⟨19, _⟩ => ⟨S1x1, .i32⟩
  | .hbm, ⟨20, _⟩ => ⟨S100000x1, .i32⟩
  | .hbm, ⟨21, _⟩ => ⟨S100000x1, .i1⟩
  | .hbm, ⟨22, _⟩ => ⟨S100000x1, .i1⟩
  | .hbm, ⟨23, _⟩ => ⟨S_, .i1⟩
  | .hbm, ⟨24, _⟩ => ⟨S100000, .i1⟩
  | .hbm, ⟨25, _⟩ => ⟨S100000x256, .f32⟩
  | .hbm, ⟨26, _⟩ => ⟨S100000x256, .i1⟩
  | .hbm, ⟨27, _⟩ => ⟨S_, .f32⟩
  | .hbm, ⟨28, _⟩ => ⟨S100000x256, .f32⟩
  | .hbm, ⟨29, _⟩ => ⟨S100000x256, .f32⟩
  | .hbm, ⟨30, _⟩ => ⟨S100000x128, .f32⟩
  | .hbm, ⟨31, _⟩ => ⟨S100000x384, .f32⟩
  | .hbm, ⟨32, _⟩ => ⟨S100000x256, .f32⟩
  | .hbm, ⟨33, _⟩ => ⟨S1x256, .f32⟩
  | .hbm, ⟨34, _⟩ => ⟨S100000x256, .f32⟩
  | .hbm, ⟨35, _⟩ => ⟨S100000x256, .f32⟩
  | _, _ => ⟨S100000x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]
-- ==== Proof.Names.lean ====
/-
  Names for the places the kernel's own copies move data between, and the equations that read the body's
  computed slices as those names.

  At grid step `t` the body works on rows `10000 t … 10000 t + 9999` of `x` and of the result. A block of `x`
  arrives as two copies of 5000 rows, on two semaphores of the ring slot `t % 3`; a block of the result leaves by
  one copy from the slot `t % 2` of the output buffer. Here: the memrefs and semaphores by slot and block number,
  the body's offsets in closed form (decided over the ten steps), and the rewriting equations.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.Routed
public import Idealize.ShloMosaic.Lib.Ring
public import Idealize.ShloMosaic.Lib.Ring.WriteBehind
public import Idealize.ShloMosaic.Lib.Tactic

@[expose] public section

noncomputable section

namespace Cert.Proof.Rows

open Cert.KernelIdeal Cert.KernelIdeal.Gen
open Idealize.ShloMosaic
open Idealize.ShloMosaic.TcCoe Idealize.ShloMosaic.Tactic

/-! ## The whole buffers -/

/-- `x` in place. -/
abbrev xM : Memref sig .tc .hbm S100000x129 .f32 := Memref.whole main_arg0
/-- The result in place. -/
abbrev yM : Memref sig .tc .hbm S100000x256 .f32 := Memref.whole main_v7
/-- The three slots `x`'s blocks arrive in. -/
abbrev xbM : Memref sig .tc .vmem S3x10000x129 .f32 := Memref.whole cc0_scratch0
/-- The two slots the result's blocks leave from. -/
abbrev obM : Memref sig .tc .vmem S2x10000x256 .f32 := Memref.whole cc0_scratch1

/-! ## Offsets by number -/

/-- Rows `10000 b …` of `x`: the first half of block `b`. -/
abbrev xaOff (b : Fin 10) : Fin 2 → Nat := ![10000 * b.val, 0]
/-- Rows `10000 b + 5000 …` of `x`: the second half. -/
abbrev xcOff (b : Fin 10) : Fin 2 → Nat := ![10000 * b.val + 5000, 0]
/-- Rows `10000 b …` of the result. -/
abbrev yOff (b : Fin 10) : Fin 2 → Nat := ![10000 * b.val, 0]
/-- Slot `s`'s first half, its second half, and the slot. -/
abbrev saOff (s : Fin 3) : Fin 3 → Nat := ![s.val, 0, 0]
abbrev scOff (s : Fin 3) : Fin 3 → Nat := ![s.val, 5000, 0]
/-- Slot `s` of the output buffer. -/
abbrev oOff (s : Fin 2) : Fin 3 → Nat := ![s.val, 0, 0]
/-- The semaphore of a slot. -/
abbrev s3Off (s : Fin 3) : Fin 1 → Nat := ![s.val]
abbrev s2Off (s : Fin 2) : Fin 1 → Nat := ![s.val]

theorem xaOff_inb : ∀ b : Fin 10, ∀ a, xaOff b a + S5000x129.size a ≤ S100000x129.size a := by decide +kernel
theorem xcOff_inb : ∀ b : Fin 10, ∀ a, xcOff b a + S5000x129.size a ≤ S100000x129.size a := by decide +kernel
theorem yOff_inb : ∀ b : Fin 10, ∀ a, yOff b a + S10000x256.size a ≤ S100000x256.size a := by decide +kernel
theorem saOff_inb : ∀ s : Fin 3, ∀ a, saOff s a + S1x5000x129.size a ≤ S3x10000x129.size a := by decide +kernel
theorem scOff_inb : ∀ s : Fin 3, ∀ a, scOff s a + S1x5000x129.size a ≤ S3x10000x129.size a := by decide +kernel
theorem slOff_inb : ∀ s : Fin 3, ∀ a, saOff s a + S1x10000x129.size a ≤ S3x10000x129.size a := by decide +kernel
theorem oOff_inb : ∀ s : Fin 2, ∀ a, oOff s a + S1x10000x256.size a ≤ S2x10000x256.size a := by decide +kernel
theorem s3Off_inb : ∀ s : Fin 3, ∀ a, s3Off s a + S1.size a ≤ S3.size a := by decide +kernel
theorem s2Off_inb : ∀ s : Fin 2, ∀ a, s2Off s a + S1.size a ≤ S2.size a := by decide +kernel

/-! ## The memrefs and semaphores by number -/

/-- The first half of block `b` of `x`; -/
def xa (b : Fin 10) : Memref sig .tc .hbm S5000x129 .f32 :=
  xM.slice (Rect.unit (s := S100000x129) (xaOff b) S5000x129.size (xaOff_inb b)) (fun _ => rfl)
/-- the second half. -/
def xc (b : Fin 10) : Memref sig .tc .hbm S5000x129 .f32 :=
  xM.slice (Rect.unit (s := S100000x129) (xcOff b) S5000x129.size (xcOff_inb b)) (fun _ => rfl)
/-- Block `b` of the result. -/
def yb (b : Fin 10) : Memref sig .tc .hbm S10000x256 .f32 :=
  yM.slice (Rect.unit (s := S100000x256) (yOff b) S10000x256.size (yOff_inb b)) (fun _ => rfl)
/-- Slot `s`'s first half; -/
def sa (s : Fin 3) : Memref sig .tc .vmem S5000x129 .f32 :=
  (xbM.slice (Rect.unit (s := S3x10000x129) (saOff s) S1x5000x129.size (saOff_inb s)) (fun _ => rfl)).squeeze S5000x129 squeezes_S1x5000x129_S5000x129
/-- its second half; -/
def sc (s : Fin 3) : Memref sig .tc .vmem S5000x129 .f32 :=
  (xbM.slice (Rect.unit (s := S3x10000x129) (scOff s) S1x5000x129.size (scOff_inb s)) (fun _ => rfl)).squeeze S5000x129 squeezes_S1x5000x129_S5000x129
/-- the whole slot, as the body loads from it. -/
def sw (s : Fin 3) : Memref sig .tc .vmem S10000x129 .f32 :=
  (xbM.slice (Rect.unit (s := S3x10000x129) (saOff s) S1x10000x129.size (slOff_inb s)) (fun _ => rfl)).squeeze S10000x129 squeezes_S1x10000x129_S10000x129
/-- Output slot `s`. -/
def ob (s : Fin 2) : Memref sig .tc .vmem S10000x256 .f32 :=
  (obM.slice (Rect.unit (s := S2x10000x256) (oOff s) S1x10000x256.size (oOff_inb s)) (fun _ => rfl)).squeeze S10000x256 squeezes_S1x10000x256_S10000x256
/-- Slot `s`'s two arrival semaphores; -/
def ca (s : Fin 3) : DmaSems sig S_ := (cc0_scratch7.slice (Rect.unit (s := S3) (s3Off s) S1.size (s3Off_inb s))).squeeze S_ squeezes_S1_S_
def cc (s : Fin 3) : DmaSems sig S_ := (cc0_scratch8.slice (Rect.unit (s := S3) (s3Off s) S1.size (s3Off_inb s))).squeeze S_ squeezes_S1_S_
/-- output slot `s`'s departure semaphore. -/
def co (s : Fin 2) : DmaSems sig S_ := (cc0_scratch9.slice (Rect.unit (s := S2) (s2Off s) S1.size (s2Off_inb s))).squeeze S_ squeezes_S1_S_

instance (s : Fin 2) : ClosedOff (oOff s) := ⟨oOff s, rfl⟩

/-! ## The body's computed offsets -/

section Offsets

open Idealize.ShloMosaic.Ring (sl bk)

theorem off1_eq : ∀ t : Fin grid0.N, k0_off1 (grid0.coords t) = s3Off (sl 3 t.val) := by decide +kernel
theorem off2_eq : ∀ t : Fin grid0.N, k0_off2 (grid0.coords t) = saOff (sl 3 t.val) := by decide +kernel
theorem off3_eq : ∀ t : Fin grid0.N, k0_off3 (grid0.coords t) = xaOff (bk 10 t.val) := by decide +kernel
theorem off4_eq : ∀ t : Fin grid0.N, k0_off4 (grid0.coords t) = scOff (sl 3 t.val) := by decide +kernel
theorem off5_eq : ∀ t : Fin grid0.N, k0_off5 (grid0.coords t) = xcOff (bk 10 t.val) := by decide +kernel
theorem off6_eq : ∀ t : Fin grid0.N, 2 ≤ t.val → k0_off6 (grid0.coords t) = s2Off (sl 2 t.val) := by decide +kernel
theorem off7_eq : ∀ t : Fin grid0.N, 2 ≤ t.val → k0_off7 (grid0.coords t) = yOff (bk 10 (t.val - 2)) := by decide +kernel
theorem off8_eq : ∀ t : Fin grid0.N, 2 ≤ t.val → k0_off8 (grid0.coords t) = oOff (sl 2 t.val) := by decide +kernel
theorem off9_eq : ∀ t : Fin grid0.N, k0_off9 (grid0.coords t) = saOff (sl 3 t.val) := by decide +kernel
theorem off10_eq : ∀ t : Fin grid0.N, k0_off10 (grid0.coords t) = oOff (sl 2 t.val) := by decide +kernel
theorem off11_eq : ∀ t : Fin grid0.N, k0_off11 (grid0.coords t) = s2Off (sl 2 t.val) := by decide +kernel
theorem off12_eq : ∀ t : Fin grid0.N, k0_off12 (grid0.coords t) = yOff (bk 10 t.val) := by decide +kernel
theorem off13_eq : ∀ t : Fin grid0.N, k0_off13 (grid0.coords t) = oOff (sl 2 t.val) := by decide +kernel
theorem off14_eq : ∀ t : Fin grid0.N, t.val + 2 < 10 → k0_off14 (grid0.coords t) = s3Off (sl 3 (t.val + 2)) := by decide +kernel
theorem off15_eq : ∀ t : Fin grid0.N, t.val + 2 < 10 → k0_off15 (grid0.coords t) = saOff (sl 3 (t.val + 2)) := by decide +kernel
theorem off16_eq : ∀ t : Fin grid0.N, t.val + 2 < 10 → k0_off16 (grid0.coords t) = xaOff (bk 10 (t.val + 2)) := by decide +kernel
theorem off17_eq : ∀ t : Fin grid0.N, t.val + 2 < 10 → k0_off17 (grid0.coords t) = scOff (sl 3 (t.val + 2)) := by decide +kernel
theorem off18_eq : ∀ t : Fin grid0.N, t.val + 2 < 10 → k0_off18 (grid0.coords t) = xcOff (bk 10 (t.val + 2)) := by decide +kernel
theorem off19_eq : ∀ t : Fin grid0.N, t.val = 9 → k0_off19 (grid0.coords t) = s2Off (sl 2 (t.val + 1)) := by decide +kernel
theorem off20_eq : ∀ t : Fin grid0.N, t.val = 9 → k0_off20 (grid0.coords t) = yOff (bk 10 (t.val - 1)) := by decide +kernel
theorem off21_eq : ∀ t : Fin grid0.N, t.val = 9 → k0_off21 (grid0.coords t) = oOff (sl 2 (t.val + 1)) := by decide +kernel
theorem off22_eq : ∀ t : Fin grid0.N, k0_off22 (grid0.coords t) = s2Off (sl 2 t.val) := by decide +kernel
theorem off23_eq : ∀ t : Fin grid0.N, k0_off23 (grid0.coords t) = yOff (bk 10 t.val) := by decide +kernel
theorem off24_eq : ∀ t : Fin grid0.N, k0_off24 (grid0.coords t) = oOff (sl 2 t.val) := by decide +kernel

instance (t : Fin grid0.N) : ClosedOff (k0_off10 (grid0.coords t)) := ⟨oOff (sl 2 t.val), off10_eq t⟩

/-- The body's four guards: the first step, an output copy two steps back, a block two steps ahead, the last step. -/
abbrev cond1 (i : grid0.Coords) : Prop :=
  Scalar.cmpi .ne (Scalar.extui (Scalar.cmpi .eq (BitVec.ofNat 32 (i 0).val) 0#32) : BitVec 32) 0#32 = 1#1
theorem cond1_iff : ∀ t : Fin grid0.N, cond1 (grid0.coords t) ↔ t.val = 0 := by decide +kernel
theorem cond2_iff : ∀ t : Fin grid0.N, k0_cond2 (grid0.coords t) = 1#1 ↔ 2 ≤ t.val := by decide +kernel
theorem cond3_iff : ∀ t : Fin grid0.N, k0_cond3 (grid0.coords t) = 1#1 ↔ t.val + 2 < 10 := by decide +kernel
theorem cond4_iff : ∀ t : Fin grid0.N, k0_cond4 (grid0.coords t) = 1#1 ↔ t.val = 9 := by decide +kernel

end Offsets

/-! ## The body's slices are the named ones -/

section Canon

open Idealize.ShloMosaic.Ring (sl bk)

private theorem xa_congr {off : Fin 2 → Nat} {b : Fin 10} (e : off = xaOff b) (hh hs) :
    xM.slice (Rect.unit (s := S100000x129) off S5000x129.size hh) hs = xa b := Memref.slice_unit_congr _ e _ _ _ (fun _ => rfl)
private theorem xc_congr {off : Fin 2 → Nat} {b : Fin 10} (e : off = xcOff b) (hh hs) :
    xM.slice (Rect.unit (s := S100000x129) off S5000x129.size hh) hs = xc b := Memref.slice_unit_congr _ e _ _ _ (fun _ => rfl)
private theorem yb_congr {off : Fin 2 → Nat} {b : Fin 10} (e : off = yOff b) (hh hs) :
    yM.slice (Rect.unit (s := S100000x256) off S10000x256.size hh) hs = yb b := Memref.slice_unit_congr _ e _ _ _ (fun _ => rfl)
private theorem sa_congr {off : Fin 3 → Nat} {s : Fin 3} (e : off = saOff s) (hh hs) :
    (xbM.slice (Rect.unit (s := S3x10000x129) off S1x5000x129.size hh) hs).squeeze S5000x129 squeezes_S1x5000x129_S5000x129 = sa s :=
  congrArg (fun M : Memref sig .tc .vmem S1x5000x129 .f32 => M.squeeze S5000x129 squeezes_S1x5000x129_S5000x129) (Memref.slice_unit_congr _ e _ _ _ _)
private theorem sc_congr {off : Fin 3 → Nat} {s : Fin 3} (e : off = scOff s) (hh hs) :
    (xbM.slice (Rect.unit (s := S3x10000x129) off S1x5000x129.size hh) hs).squeeze S5000x129 squeezes_S1x5000x129_S5000x129 = sc s :=
  congrArg (fun M : Memref sig .tc .vmem S1x5000x129 .f32 => M.squeeze S5000x129 squeezes_S1x5000x129_S5000x129) (Memref.slice_unit_congr _ e _ _ _ _)
private theorem sw_congr {off : Fin 3 → Nat} {s : Fin 3} (e : off = saOff s) (hh hs) :
    (xbM.slice (Rect.unit (s := S3x10000x129) off S1x10000x129.size hh) hs).squeeze S10000x129 squeezes_S1x10000x129_S10000x129 = sw s :=
  congrArg (fun M : Memref sig .tc .vmem S1x10000x129 .f32 => M.squeeze S10000x129 squeezes_S1x10000x129_S10000x129) (Memref.slice_unit_congr _ e _ _ _ _)
private theorem ob_congr {off : Fin 3 → Nat} {s : Fin 2} (e : off = oOff s) (hh hs) :
    (obM.slice (Rect.unit (s := S2x10000x256) off S1x10000x256.size hh) hs).squeeze S10000x256 squeezes_S1x10000x256_S10000x256 = ob s :=
  congrArg (fun M : Memref sig .tc .vmem S1x10000x256 .f32 => M.squeeze S10000x256 squeezes_S1x10000x256_S10000x256) (Memref.slice_unit_congr _ e _ _ _ _)
private theorem ca_congr {off : Fin 1 → Nat} {s : Fin 3} (e : off = s3Off s) (hh) :
    (cc0_scratch7.slice (Rect.unit (s := S3) off S1.size hh)).squeeze S_ squeezes_S1_S_ = ca s :=
  congrArg (fun A : DmaSems sig S1 => A.squeeze S_ squeezes_S1_S_) (SemArray.slice_unit_congr _ e _ _)
private theorem cc_congr {off : Fin 1 → Nat} {s : Fin 3} (e : off = s3Off s) (hh) :
    (cc0_scratch8.slice (Rect.unit (s := S3) off S1.size hh)).squeeze S_ squeezes_S1_S_ = cc s :=
  congrArg (fun A : DmaSems sig S1 => A.squeeze S_ squeezes_S1_S_) (SemArray.slice_unit_congr _ e _ _)
private theorem co_congr {off : Fin 1 → Nat} {s : Fin 2} (e : off = s2Off s) (hh) :
    (cc0_scratch9.slice (Rect.unit (s := S2) off S1.size hh)).squeeze S_ squeezes_S1_S_ = co s :=
  congrArg (fun A : DmaSems sig S1 => A.squeeze S_ squeezes_S1_S_) (SemArray.slice_unit_congr _ e _ _)

/-! The first step's copies of blocks 0 and 1, at literal offsets. -/
@[sl_canon] theorem ca_0 (hh) : (cc0_scratch7.slice (Rect.unit (s := S3) ![0] S1.size hh)).squeeze S_ squeezes_S1_S_ = ca 0 := ca_congr (by decide) _
@[sl_canon] theorem ca_1 (hh) : (cc0_scratch7.slice (Rect.unit (s := S3) ![1] S1.size hh)).squeeze S_ squeezes_S1_S_ = ca 1 := ca_congr (by decide) _
@[sl_canon] theorem cc_0 (hh) : (cc0_scratch8.slice (Rect.unit (s := S3) ![0] S1.size hh)).squeeze S_ squeezes_S1_S_ = cc 0 := cc_congr (by decide) _
@[sl_canon] theorem cc_1 (hh) : (cc0_scratch8.slice (Rect.unit (s := S3) ![1] S1.size hh)).squeeze S_ squeezes_S1_S_ = cc 1 := cc_congr (by decide) _
@[sl_canon] theorem sa_0 (hh hs) : (xbM.slice (Rect.unit (s := S3x10000x129) ![0, 0, 0] S1x5000x129.size hh) hs).squeeze S5000x129 squeezes_S1x5000x129_S5000x129 = sa 0 := sa_congr (by decide) _ _
@[sl_canon] theorem sa_1 (hh hs) : (xbM.slice (Rect.unit (s := S3x10000x129) ![1, 0, 0] S1x5000x129.size hh) hs).squeeze S5000x129 squeezes_S1x5000x129_S5000x129 = sa 1 := sa_congr (by decide) _ _
@[sl_canon] theorem sc_0 (hh hs) : (xbM.slice (Rect.unit (s := S3x10000x129) ![0, 5000, 0] S1x5000x129.size hh) hs).squeeze S5000x129 squeezes_S1x5000x129_S5000x129 = sc 0 := sc_congr (by decide) _ _
@[sl_canon] theorem sc_1 (hh hs) : (xbM.slice (Rect.unit (s := S3x10000x129) ![1, 5000, 0] S1x5000x129.size hh) hs).squeeze S5000x129 squeezes_S1x5000x129_S5000x129 = sc 1 := sc_congr (by decide) _ _
@[sl_canon] theorem xa_0 (hh hs) : xM.slice (Rect.unit (s := S100000x129) ![0, 0] S5000x129.size hh) hs = xa 0 := xa_congr (by decide) _ _
@[sl_canon] theorem xc_0 (hh hs) : xM.slice (Rect.unit (s := S100000x129) ![5000, 0] S5000x129.size hh) hs = xc 0 := xc_congr (by decide) _ _
@[sl_canon] theorem xa_1 (hh hs) : xM.slice (Rect.unit (s := S100000x129) ![10000, 0] S5000x129.size hh) hs = xa 1 := xa_congr (by decide) _ _
@[sl_canon] theorem xc_1 (hh hs) : xM.slice (Rect.unit (s := S100000x129) ![15000, 0] S5000x129.size hh) hs = xc 1 := xc_congr (by decide) _ _

variable (t : Fin grid0.N)

/-! Step `t`'s waits for its block, its loads, its store and its departing copy. -/
@[sl_canon] theorem ca_t (hh) : (cc0_scratch7.slice (Rect.unit (s := S3) (k0_off1 (grid0.coords t)) S1.size hh)).squeeze S_ squeezes_S1_S_ = ca (sl 3 t.val) := ca_congr (off1_eq t) _
@[sl_canon] theorem cc_t (hh) : (cc0_scratch8.slice (Rect.unit (s := S3) (k0_off1 (grid0.coords t)) S1.size hh)).squeeze S_ squeezes_S1_S_ = cc (sl 3 t.val) := cc_congr (off1_eq t) _
@[sl_canon] theorem sa_t (hh hs) : (xbM.slice (Rect.unit (s := S3x10000x129) (k0_off2 (grid0.coords t)) S1x5000x129.size hh) hs).squeeze S5000x129 squeezes_S1x5000x129_S5000x129 = sa (sl 3 t.val) := sa_congr (off2_eq t) _ _
@[sl_canon] theorem xa_t (hh hs) : xM.slice (Rect.unit (s := S100000x129) (k0_off3 (grid0.coords t)) S5000x129.size hh) hs = xa (bk 10 t.val) := xa_congr (off3_eq t) _ _
@[sl_canon] theorem sc_t (hh hs) : (xbM.slice (Rect.unit (s := S3x10000x129) (k0_off4 (grid0.coords t)) S1x5000x129.size hh) hs).squeeze S5000x129 squeezes_S1x5000x129_S5000x129 = sc (sl 3 t.val) := sc_congr (off4_eq t) _ _
@[sl_canon] theorem xc_t (hh hs) : xM.slice (Rect.unit (s := S100000x129) (k0_off5 (grid0.coords t)) S5000x129.size hh) hs = xc (bk 10 t.val) := xc_congr (off5_eq t) _ _
@[sl_canon] theorem sw_t (hh hs) : (xbM.slice (Rect.unit (s := S3x10000x129) (k0_off9 (grid0.coords t)) S1x10000x129.size hh) hs).squeeze S10000x129 squeezes_S1x10000x129_S10000x129 = sw (sl 3 t.val) := sw_congr (off9_eq t) _ _
@[sl_canon] theorem co_t (hh) : (cc0_scratch9.slice (Rect.unit (s := S2) (k0_off11 (grid0.coords t)) S1.size hh)).squeeze S_ squeezes_S1_S_ = co (sl 2 t.val) := co_congr (off11_eq t) _
@[sl_canon] theorem yb_t (hh hs) : yM.slice (Rect.unit (s := S100000x256) (k0_off12 (grid0.coords t)) S10000x256.size hh) hs = yb (bk 10 t.val) := yb_congr (off12_eq t) _ _
@[sl_canon] theorem ob_t (hh hs) : (obM.slice (Rect.unit (s := S2x10000x256) (k0_off13 (grid0.coords t)) S1x10000x256.size hh) hs).squeeze S10000x256 squeezes_S1x10000x256_S10000x256 = ob (sl 2 t.val) := ob_congr (off13_eq t) _ _

/-! The wait for the copy that left two steps back. -/
@[sl_canon] theorem co_p (h : 2 ≤ t.val) (hh) : (cc0_scratch9.slice (Rect.unit (s := S2) (k0_off6 (grid0.coords t)) S1.size hh)).squeeze S_ squeezes_S1_S_ = co (sl 2 t.val) := co_congr (off6_eq t h) _
@[sl_canon] theorem yb_p (h : 2 ≤ t.val) (hh hs) : yM.slice (Rect.unit (s := S100000x256) (k0_off7 (grid0.coords t)) S10000x256.size hh) hs = yb (bk 10 (t.val - 2)) := yb_congr (off7_eq t h) _ _
@[sl_canon] theorem ob_p (h : 2 ≤ t.val) (hh hs) : (obM.slice (Rect.unit (s := S2x10000x256) (k0_off8 (grid0.coords t)) S1x10000x256.size hh) hs).squeeze S10000x256 squeezes_S1x10000x256_S10000x256 = ob (sl 2 t.val) := ob_congr (off8_eq t h) _ _

/-! The start of the block two steps ahead. -/
@[sl_canon] theorem ca_n (h : t.val + 2 < 10) (hh) : (cc0_scratch7.slice (Rect.unit (s := S3) (k0_off14 (grid0.coords t)) S1.size hh)).squeeze S_ squeezes_S1_S_ = ca (sl 3 (t.val + 2)) := ca_congr (off14_eq t h) _
@[sl_canon] theorem cc_n (h : t.val + 2 < 10) (hh) : (cc0_scratch8.slice (Rect.unit (s := S3) (k0_off14 (grid0.coords t)) S1.size hh)).squeeze S_ squeezes_S1_S_ = cc (sl 3 (t.val + 2)) := cc_congr (off14_eq t h) _
@[sl_canon] theorem sa_n (h : t.val + 2 < 10) (hh hs) : (xbM.slice (Rect.unit (s := S3x10000x129) (k0_off15 (grid0.coords t)) S1x5000x129.size hh) hs).squeeze S5000x129 squeezes_S1x5000x129_S5000x129 = sa (sl 3 (t.val + 2)) := sa_congr (off15_eq t h) _ _
@[sl_canon] theorem xa_n (h : t.val + 2 < 10) (hh hs) : xM.slice (Rect.unit (s := S100000x129) (k0_off16 (grid0.coords t)) S5000x129.size hh) hs = xa (bk 10 (t.val + 2)) := xa_congr (off16_eq t h) _ _
@[sl_canon] theorem sc_n (h : t.val + 2 < 10) (hh hs) : (xbM.slice (Rect.unit (s := S3x10000x129) (k0_off17 (grid0.coords t)) S1x5000x129.size hh) hs).squeeze S5000x129 squeezes_S1x5000x129_S5000x129 = sc (sl 3 (t.val + 2)) := sc_congr (off17_eq t h) _ _
@[sl_canon] theorem xc_n (h : t.val + 2 < 10) (hh hs) : xM.slice (Rect.unit (s := S100000x129) (k0_off18 (grid0.coords t)) S5000x129.size hh) hs = xc (bk 10 (t.val + 2)) := xc_congr (off18_eq t h) _ _

/-! The last step's two waits. -/
@[sl_canon] theorem co_q (h : t.val = 9) (hh) : (cc0_scratch9.slice (Rect.unit (s := S2) (k0_off19 (grid0.coords t)) S1.size hh)).squeeze S_ squeezes_S1_S_ = co (sl 2 (t.val + 1)) := co_congr (off19_eq t h) _
@[sl_canon] theorem yb_q (h : t.val = 9) (hh hs) : yM.slice (Rect.unit (s := S100000x256) (k0_off20 (grid0.coords t)) S10000x256.size hh) hs = yb (bk 10 (t.val - 1)) := yb_congr (off20_eq t h) _ _
@[sl_canon] theorem ob_q (h : t.val = 9) (hh hs) : (obM.slice (Rect.unit (s := S2x10000x256) (k0_off21 (grid0.coords t)) S1x10000x256.size hh) hs).squeeze S10000x256 squeezes_S1x10000x256_S10000x256 = ob (sl 2 (t.val + 1)) := ob_congr (off21_eq t h) _ _
@[sl_canon] theorem co_r (hh) : (cc0_scratch9.slice (Rect.unit (s := S2) (k0_off22 (grid0.coords t)) S1.size hh)).squeeze S_ squeezes_S1_S_ = co (sl 2 t.val) := co_congr (off22_eq t) _
@[sl_canon] theorem yb_r (hh hs) : yM.slice (Rect.unit (s := S100000x256) (k0_off23 (grid0.coords t)) S10000x256.size hh) hs = yb (bk 10 t.val) := yb_congr (off23_eq t) _ _
@[sl_canon] theorem ob_r (hh hs) : (obM.slice (Rect.unit (s := S2x10000x256) (k0_off24 (grid0.coords t)) S1x10000x256.size hh) hs).squeeze S10000x256 squeezes_S1x10000x256_S10000x256 = ob (sl 2 t.val) := ob_congr (off24_eq t) _ _

end Canon

end Cert.Proof.Rows

end
-- ==== Proof.Pieces.lean ====
/-
  What the kernel holds between grid steps, piece by piece: a block of `x` at home, a ring slot, its semaphores, a
  block of `x` in flight into a slot; a block of the result not yet written or written, an output slot, a block of the
  result in flight out of a slot; and what the written values are.
-/
module

public import proofs.«01_k».proof.Proof.Names
public import Idealize.ShloMosaic.Lib.Pointwise

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic (ix2 ix3)

variable {F : FTy → Type} [FloatOps F]

local notation "𝕄" => MT nD τ sig Unit (Elt F) ℕ (Pipeline.UC sig nD τ) ℕ
abbrev 𝒱₀ : Variants := Variants.none

/-! ## The values -/

section Values
variable (X : S100000x129.Idx → Elt F .f32) (FT W2 : S128x256.Idx → Elt F .bf16)

/-- Row `10000 b + r` of `x`, as a row of block `b`. -/
def xrow (b : Fin 10) (r : Fin 10000) : Fin 100000 := ⟨10000 * b.val + r.val, by have := b.isLt; have := r.isLt; omega⟩

/-- A buffer of ring slots every one of which holds block `b` of `x`. -/
def xslots (b : Fin 10) : S3x10000x129.Idx → Elt F .f32 := fun i => X (ix2 (xrow b (i 1)) (i 2))

/-- Block `b`'s first column, the ids; -/
def idsOf (b : Fin 10) : S10000x1.Idx → Elt F .f32 := fun j => X (ix2 (xrow b (j 0)) 0)
/-- its other columns, the features. -/
def featsOf (b : Fin 10) : S10000x128.Idx → Elt F .f32 := fun j => X (ix2 (xrow b (j 0)) ⟨1 + (j 1).val, by have : (j 1).val < 128 := (j 1).isLt; show _ < 129; omega⟩)

/-- What step `b` computes: block `b` of the result. -/
def yblk (b : Fin 10) : S10000x256.Idx → Elt F .f32 :=
  fun j => k0_pay2 (F := F) (idsOf X b) (featsOf X b) FT W2 (ix3 0 (j 0) (j 1))

/-- The result: every block as its step computes it. -/
def yAll : S100000x256.Idx → Elt F .f32 :=
  fun i => yblk X FT W2 ⟨(i 0).val / 10000, by have : (i 0).val < 100000 := (i 0).isLt; omega⟩
    (ix2 ⟨(i 0).val % 10000, Nat.mod_lt _ (by decide)⟩ (i 1))

end Values

/-! ## The pieces -/

section Pieces
variable (c : Dev nD) (X : S100000x129.Idx → Elt F .f32) (Y : S100000x256.Idx → Elt F .f32)

/-- Slot `s`'s two arrival semaphores at rest. -/
def cellX (s : Fin 3) : sProp 𝕄 :=
  iprop(semVal ((c : Thread nD τ), SemLoc.dma (ca s).sem) 0 ∗ semVal ((c : Thread nD τ), SemLoc.dma (cc s).sem) 0)
/-- Slot `s`'s two halves, each at anything. -/
def slotX (s : Fin 3) (_ : Unit) : sProp 𝕄 :=
  iprop((∃ f, (sa s).view.loc (c : Thread nD τ) ↦[(sa s).view.set]{fullShare} f) ∗ ∃ f, (sc s).view.loc (c : Thread nD τ) ↦[(sc s).view.set]{fullShare} f)
/-- Block `b` of `x` at home, in two halves. -/
def homeX (b : Fin 10) : sProp 𝕄 :=
  iprop(((xa b).view.loc (c : Thread nD τ) ↦[(xa b).view.set]{fullShare} X) ∗ ((xc b).view.loc (c : Thread nD τ) ↦[(xc b).view.set]{fullShare} X))
/-- The first half of block `b` on its way into slot `s`, -/
abbrev flightA (s : Fin 3) (b : Fin 10) (f : Buf (Elt F) ((sa s).view.loc (c : Thread nD τ))) : sProp 𝕄 :=
  Transfers.Flight countersEmb (c : Thread nD τ) (SemLoc.dma (ca s).sem) () ((sa s).view.amount (SemLoc.dma (ca s).sem))
    iprop(((sa s).view.loc (c : Thread nD τ) ↦[(sa s).view.set]{fullShare}
        (sa s).view.writes (Elt F) f [⟨Rect.whole S5000x129, ReadAs.same.apply ((xa b).view.read (Elt F) X)⟩])
      ∗ ((xa b).view.loc (c : Thread nD τ) ↦[(xa b).view.set]{fullShare} X))
/-- and the second. -/
abbrev flightC (s : Fin 3) (b : Fin 10) (f : Buf (Elt F) ((sc s).view.loc (c : Thread nD τ))) : sProp 𝕄 :=
  Transfers.Flight countersEmb (c : Thread nD τ) (SemLoc.dma (cc s).sem) () ((sc s).view.amount (SemLoc.dma (cc s).sem))
    iprop(((sc s).view.loc (c : Thread nD τ) ↦[(sc s).view.set]{fullShare}
        (sc s).view.writes (Elt F) f [⟨Rect.whole S5000x129, ReadAs.same.apply ((xc b).view.read (Elt F) X)⟩])
      ∗ ((xc b).view.loc (c : Thread nD τ) ↦[(xc b).view.set]{fullShare} X))
def flightX (s : Fin 3) (b : Fin 10) (_ : Unit) : sProp 𝕄 := iprop((∃ f, flightA c X s b f) ∗ ∃ f, flightC c X s b f)

/-- Block `b` of the result not yet written: at anything. -/
def aheadY (b : Fin 10) : sProp 𝕄 := iprop(∃ f, (yb b).view.loc (c : Thread nD τ) ↦[(yb b).view.set]{fullShare} f)
/-- Block `b` of the result, written. -/
def behindY (b : Fin 10) : sProp 𝕄 := iprop((yb b).view.loc (c : Thread nD τ) ↦[(yb b).view.set]{fullShare} Y)
/-- Output slot `s`, idle. -/
def freeY (s : Fin 2) : sProp 𝕄 :=
  iprop(semVal ((c : Thread nD τ), SemLoc.dma (co s).sem) 0 ∗ ∃ f, (ob s).view.loc (c : Thread nD τ) ↦[(ob s).view.set]{fullShare} f)

end Pieces

end Cert.Proof.Rows

end
-- ==== Proof.Slots.lean ====
/-
  The ring slots as memory: where each named slice's elements lie, the two halves of a slot joined into the slot and
  taken apart again, what the body's loads of a landed slot read, and what the stored block of the result leaves.
-/
module

public import proofs.«01_k».proof.Proof.Pieces
public import Idealize.ShloMosaic.Lib.ValueLayout
public import Idealize.ShloMosaic.Lib.ViewIndex

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-! ## Where an index of a slice lies in its buffer -/

/-- A squeezed index is the index behind a leading `0`. -/
theorem squeeze_ix {a b : ℕ} (h : (⟨2, ![a, b]⟩ : Shape).numel = (⟨3, ![1, a, b]⟩ : Shape).numel) (j : (⟨2, ![a, b]⟩ : Shape).Idx) :
    Shape.reshapeEquiv h j = ix3 (n0 := 1) (n1 := a) (n2 := b) 0 (j 0) (j 1) := by
  conv_lhs => rw [ValueIdx.eq_ix2 j]
  exact ValueIdx.reshapeEquiv_ix2_1ab h _ _

theorem xa_emb (b : Fin 10) (j : S5000x129.Idx) :
    (xa b).view.emb j = ix2 (n0 := 100000) (n1 := 129) ⟨10000 * b.val + (j 0).val, by have := b.isLt; have : (j 0).val < 5000 := (j 0).isLt; omega⟩ (j 1) := by
  funext a; fin_cases a <;> apply Fin.ext
  · show 10000 * b.val + 1 * (j 0).val = _; rw [Nat.one_mul]; rfl
  · show 0 + 1 * (j 1).val = _; rw [Nat.one_mul, Nat.zero_add]; rfl
theorem xc_emb (b : Fin 10) (j : S5000x129.Idx) :
    (xc b).view.emb j = ix2 (n0 := 100000) (n1 := 129) ⟨10000 * b.val + (5000 + (j 0).val), by have := b.isLt; have : (j 0).val < 5000 := (j 0).isLt; omega⟩ (j 1) := by
  funext a; fin_cases a <;> apply Fin.ext
  · show 10000 * b.val + 5000 + 1 * (j 0).val = _; rw [Nat.one_mul, Nat.add_assoc]; rfl
  · show 0 + 1 * (j 1).val = _; rw [Nat.one_mul, Nat.zero_add]; rfl
theorem yb_emb (b : Fin 10) (j : S10000x256.Idx) :
    (yb b).view.emb j = ix2 (n0 := 100000) (n1 := 256) (xrow b (j 0)) (j 1) := by
  funext a; fin_cases a <;> apply Fin.ext
  · show 10000 * b.val + 1 * (j 0).val = _; rw [Nat.one_mul]; rfl
  · show 0 + 1 * (j 1).val = _; rw [Nat.one_mul, Nat.zero_add]; rfl
theorem sa_emb (s : Fin 3) (j : S5000x129.Idx) :
    (sa s).view.emb j = ix3 (n0 := 3) (n1 := 10000) (n2 := 129) s ⟨(j 0).val, by have : (j 0).val < 5000 := (j 0).isLt; omega⟩ (j 1) := by
  have e : (sa s).view.emb j = (Rect.unit (s := S3x10000x129) (saOff s) S1x5000x129.size (saOff_inb s)).emb (Shape.reshapeEquiv (s := S1x5000x129) (s' := S5000x129) (by decide) j) := rfl
  refine e.trans ((congrArg _ (squeeze_ix _ j)).trans ?_)
  funext a; fin_cases a <;> apply Fin.ext
  · show s.val + 1 * 0 = _; rfl
  · show 0 + 1 * (j 0).val = _; rw [Nat.one_mul, Nat.zero_add]; rfl
  · show 0 + 1 * (j 1).val = _; rw [Nat.one_mul, Nat.zero_add]; rfl
theorem sc_emb (s : Fin 3) (j : S5000x129.Idx) :
    (sc s).view.emb j = ix3 (n0 := 3) (n1 := 10000) (n2 := 129) s ⟨5000 + (j 0).val, by have : (j 0).val < 5000 := (j 0).isLt; omega⟩ (j 1) := by
  have e : (sc s).view.emb j = (Rect.unit (s := S3x10000x129) (scOff s) S1x5000x129.size (scOff_inb s)).emb (Shape.reshapeEquiv (s := S1x5000x129) (s' := S5000x129) (by decide) j) := rfl
  refine e.trans ((congrArg _ (squeeze_ix _ j)).trans ?_)
  funext a; fin_cases a <;> apply Fin.ext
  · show s.val + 1 * 0 = _; rfl
  · show 5000 + 1 * (j 0).val = _; rw [Nat.one_mul]; rfl
  · show 0 + 1 * (j 1).val = _; rw [Nat.one_mul, Nat.zero_add]; rfl
theorem sw_emb (s : Fin 3) (j : S10000x129.Idx) :
    (sw s).view.emb j = ix3 (n0 := 3) (n1 := 10000) (n2 := 129) s (j 0) (j 1) := by
  have e : (sw s).view.emb j = (Rect.unit (s := S3x10000x129) (saOff s) S1x10000x129.size (slOff_inb s)).emb (Shape.reshapeEquiv (s := S1x10000x129) (s' := S10000x129) (by decide) j) := rfl
  refine e.trans ((congrArg _ (squeeze_ix _ j)).trans ?_)
  funext a; fin_cases a <;> apply Fin.ext
  · show s.val + 1 * 0 = _; rfl
  · show 0 + 1 * (j 0).val = _; rw [Nat.one_mul, Nat.zero_add]; rfl
  · show 0 + 1 * (j 1).val = _; rw [Nat.one_mul, Nat.zero_add]; rfl
theorem ob_emb (s : Fin 2) (j : S10000x256.Idx) :
    (ob s).view.emb j = (Rect.unit (s := S2x10000x256) (oOff s) S1x10000x256.size (oOff_inb s)).emb (ix3 (n0 := 1) (n1 := 10000) (n2 := 256) 0 (j 0) (j 1)) := by
  have e : (ob s).view.emb j = (Rect.unit (s := S2x10000x256) (oOff s) S1x10000x256.size (oOff_inb s)).emb (Shape.reshapeEquiv (s := S1x10000x256) (s' := S10000x256) (by decide) j) := rfl
  exact e.trans (congrArg _ (squeeze_ix _ j))

/-! ## A slot's halves and the slot -/

theorem sa_set (s : Fin 3) : (sa s).view.set = (Rect.unit (s := S3x10000x129) (saOff s) S1x5000x129.size (saOff_inb s)).set :=
  (View.set_reshape _ _).trans (View.set_slice_whole _ _)
theorem sc_set (s : Fin 3) : (sc s).view.set = (Rect.unit (s := S3x10000x129) (scOff s) S1x5000x129.size (scOff_inb s)).set :=
  (View.set_reshape _ _).trans (View.set_slice_whole _ _)
theorem sw_set (s : Fin 3) : (sw s).view.set = (Rect.unit (s := S3x10000x129) (saOff s) S1x10000x129.size (slOff_inb s)).set :=
  (View.set_reshape _ _).trans (View.set_slice_whole _ _)

theorem disjoint_of_eq {ι : Type} [DecidableEq ι] {A A' B B' : Finset ι} (ha : A = A') (hb : B = B') (h : Disjoint A' B') : Disjoint A B := by
  subst ha; subst hb; exact h
theorem union_of_eq {ι : Type} [DecidableEq ι] {A A' B B' C C' : Finset ι} (ha : A = A') (hb : B = B') (hc : C = C') (h : A' ∪ B' = C') : A ∪ B = C := by
  subst ha; subst hb; subst hc; exact h

theorem mem_sa (s : Fin 3) (y : S3x10000x129.Idx) : y ∈ (Rect.unit (s := S3x10000x129) (saOff s) S1x5000x129.size (saOff_inb s)).set ↔ (y 0).val = s.val ∧ (y 1).val < 5000 := by
  rw [Rect.mem_set_unit]
  have h2 : (y 2).val < 129 := (y 2).isLt
  constructor
  · intro H
    have a0 : s.val ≤ (y 0).val ∧ (y 0).val < s.val + 1 := H 0
    have a1 : 0 ≤ (y 1).val ∧ (y 1).val < 0 + 5000 := H 1
    omega
  · intro H i; fin_cases i
    · show s.val ≤ (y 0).val ∧ (y 0).val < s.val + 1; omega
    · show 0 ≤ (y 1).val ∧ (y 1).val < 0 + 5000; omega
    · show 0 ≤ (y 2).val ∧ (y 2).val < 0 + 129; omega
theorem mem_sc (s : Fin 3) (y : S3x10000x129.Idx) : y ∈ (Rect.unit (s := S3x10000x129) (scOff s) S1x5000x129.size (scOff_inb s)).set ↔ (y 0).val = s.val ∧ 5000 ≤ (y 1).val := by
  rw [Rect.mem_set_unit]
  have h1 : (y 1).val < 10000 := (y 1).isLt
  have h2 : (y 2).val < 129 := (y 2).isLt
  constructor
  · intro H
    have a0 : s.val ≤ (y 0).val ∧ (y 0).val < s.val + 1 := H 0
    have a1 : 5000 ≤ (y 1).val ∧ (y 1).val < 5000 + 5000 := H 1
    omega
  · intro H i; fin_cases i
    · show s.val ≤ (y 0).val ∧ (y 0).val < s.val + 1; omega
    · show 5000 ≤ (y 1).val ∧ (y 1).val < 5000 + 5000; omega
    · show 0 ≤ (y 2).val ∧ (y 2).val < 0 + 129; omega
theorem mem_sw (s : Fin 3) (y : S3x10000x129.Idx) : y ∈ (Rect.unit (s := S3x10000x129) (saOff s) S1x10000x129.size (slOff_inb s)).set ↔ (y 0).val = s.val := by
  rw [Rect.mem_set_unit]
  have h1 : (y 1).val < 10000 := (y 1).isLt
  have h2 : (y 2).val < 129 := (y 2).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 10000; omega
    · show 0 ≤ (y 2).val ∧ (y 2).val < 0 + 129; omega

/-- The slot is its two halves, which share nothing. -/
theorem halves_disjoint (s : Fin 3) : Disjoint ((sa s).view.set : Finset S3x10000x129.Idx) ((sc s).view.set : Finset S3x10000x129.Idx) := by
  have h : Disjoint (Rect.unit (s := S3x10000x129) (saOff s) S1x5000x129.size (saOff_inb s)).set (Rect.unit (s := S3x10000x129) (scOff s) S1x5000x129.size (scOff_inb s)).set := by
    rw [Finset.disjoint_left]; intro y h h'; have h1 := (mem_sa s y).1 h; have h2 := (mem_sc s y).1 h'; omega
  exact disjoint_of_eq (sa_set s) (sc_set s) h
theorem halves_union (s : Fin 3) : ((sa s).view.set : Finset S3x10000x129.Idx) ∪ ((sc s).view.set : Finset S3x10000x129.Idx) = ((sw s).view.set : Finset S3x10000x129.Idx) := by
  have h : (Rect.unit (s := S3x10000x129) (saOff s) S1x5000x129.size (saOff_inb s)).set ∪ (Rect.unit (s := S3x10000x129) (scOff s) S1x5000x129.size (scOff_inb s)).set
      = (Rect.unit (s := S3x10000x129) (saOff s) S1x10000x129.size (slOff_inb s)).set := by
    ext y; rw [Finset.mem_union, mem_sa, mem_sc, mem_sw]; omega
  exact union_of_eq (sa_set s) (sc_set s) (sw_set s) h

section Mem
theorem entails_of_eq {P Q : sProp 𝕄} (e : P = Q) : P ⊢ Q := e ▸ .rfl
variable (c : Dev nD) (X : S100000x129.Idx → Elt F .f32)

/-- Contents that read the same through a memref hold its elements alike. -/
theorem pts_read {sp : Space} {s : Shape} {e : EltTy} (M : Memref sig .tc sp s e) (f g : Buf (Elt F) (M.view.loc (c : Thread nD τ)))
    (h : M.view.read (Elt F) f = M.view.read (Elt F) g) :
    (M.view.loc (c : Thread nD τ) ↦[M.view.set]{fullShare} f : sProp 𝕄) = (M.view.loc (c : Thread nD τ) ↦[M.view.set]{fullShare} g) := by
  refine pointsTo_congr fun i hi => ?_
  obtain ⟨x, -, rfl⟩ := Finset.mem_map.1 hi
  exact View.eq_of_read_eq (congrFun h x)

/-- A slot whose halves have landed with block `b`'s halves holds block `b`. -/
theorem slot_join (s : Fin 3) (b : Fin 10) (fa fc) :
    iprop(((sa s).view.loc (c : Thread nD τ) ↦[(sa s).view.set]{fullShare}
          (sa s).view.writes (Elt F) fa [⟨Rect.whole S5000x129, ReadAs.same.apply ((xa b).view.read (Elt F) X)⟩])
        ∗ ((sc s).view.loc (c : Thread nD τ) ↦[(sc s).view.set]{fullShare}
          (sc s).view.writes (Elt F) fc [⟨Rect.whole S5000x129, ReadAs.same.apply ((xc b).view.read (Elt F) X)⟩]))
      ⊢ ((sw s).view.loc (c : Thread nD τ) ↦[(sw s).view.set]{fullShare} xslots X b : sProp 𝕄) := by
  rw [pts_read c (sa s) _ (xslots X b) (by
      rw [View.read_writes_whole]; funext j
      show X ((xa b).view.emb j) = xslots X b ((sa s).view.emb j)
      rw [xa_emb, sa_emb]; rfl),
    pts_read c (sc s) _ (xslots X b) (by
      rw [View.read_writes_whole]; funext j
      show X ((xc b).view.emb j) = xslots X b ((sc s).view.emb j)
      rw [xc_emb, sc_emb]; rfl)]
  refine (pointsTo_union (ℓ := (c : Thread nD τ).loc cc0_scratch0) (halves_disjoint s)).2.trans ?_
  exact entails_of_eq (congrArg (fun I : Finset S3x10000x129.Idx => ((c : Thread nD τ).loc cc0_scratch0 ↦[I]{fullShare} xslots X b : sProp 𝕄)) (halves_union s))

/-- The slot taken apart into its halves. -/
theorem slot_split (s : Fin 3) (f) :
    ((sw s).view.loc (c : Thread nD τ) ↦[(sw s).view.set]{fullShare} f : sProp 𝕄) ⊢ slotX c s () := by
  have h := (pointsTo_union (Ix := Unit) (Name := ℕ) (U := Pipeline.UC sig nD τ) (Lvl := ℕ) (q := fullShare) (f := f) (ℓ := (c : Thread nD τ).loc cc0_scratch0) (halves_disjoint s)).1
  have h := (entails_of_eq (congrArg (fun I : Finset S3x10000x129.Idx => ((c : Thread nD τ).loc cc0_scratch0 ↦[I]{fullShare} f : sProp 𝕄)) (halves_union s).symm)).trans h
  unfold slotX
  refine BIBase.Entails.trans (show _ ⊢ _ from h) ?_
  iintro ⟨Ha, Hc⟩
  isplitl [Ha]; · iexists f; iexact Ha
  iexists f; iexact Hc

/-- What the body's two loads of a slot holding block `b` read: the ids -/
theorem load_ids (s : Fin 3) (b : Fin 10) :
    (sw s).view.readAt (Elt F) (Rect.unit (s := S10000x129) ![0, 0] S10000x1.size inb_S10000x129_S10000x1_0_0).toLoadRect (xslots X b) = idsOf X b := by
  funext j
  show xslots X b ((sw s).view.emb _) = _
  rw [sw_emb]
  have h : (j 1).val = 0 := by have : (j 1).val < 1 := (j 1).isLt; omega
  unfold xslots idsOf
  congr 1
  funext a; fin_cases a <;> apply Fin.ext
  · show 10000 * b.val + (0 + 1 * (j 0).val) = 10000 * b.val + (j 0).val; omega
  · show 0 + 1 * (j 1).val = 0; omega
/-- and the features. -/
theorem load_feats (s : Fin 3) (b : Fin 10) :
    (sw s).view.readAt (Elt F) (Rect.unit (s := S10000x129) ![0, 1] S10000x128.size inb_S10000x129_S10000x128_0_1).toLoadRect (xslots X b) = featsOf X b := by
  funext j
  show xslots X b ((sw s).view.emb _) = _
  rw [sw_emb]
  unfold xslots featsOf
  congr 1
  funext a; fin_cases a <;> apply Fin.ext
  · show 10000 * b.val + (0 + 1 * (j 0).val) = 10000 * b.val + (j 0).val; omega
  · show 1 + 1 * (j 1).val = 1 + (j 1).val; omega

/-- A whole buffer's load at its origin reads the buffer. -/
theorem load_whole {e : EltTy} {M : Memref sig .tc .vmem S128x256 e} (f) :
    M.view.readAt (Elt F) (Rect.unit (s := S128x256) ![0, 0] S128x256.size inb_S128x256_S128x256_0_0).toLoadRect f = M.view.read (Elt F) f := by
  funext j
  show M.view.read (Elt F) f _ = _
  congr 1
  funext a; fin_cases a <;> apply Fin.ext
  · show 0 + 1 * (j 0).val = _; rw [Nat.one_mul, Nat.zero_add]; rfl
  · show 0 + 1 * (j 1).val = _; rw [Nat.one_mul, Nat.zero_add]; rfl

/-! ## The output slots -/

variable (FT W2 : S128x256.Idx → Elt F .bf16)

/-- What step `t`'s store of its block leaves in the output ring over `fp`: -/
abbrev stored (t : Fin grid0.N) (fp : Buf (Elt F) ((ob (Ring.sl 2 t.val)).view.loc (c : Thread nD τ))) : Buf (Elt F) ((ob (Ring.sl 2 t.val)).view.loc (c : Thread nD τ)) :=
  View.write (Elt F) ((Memref.whole cc0_scratch1).access (Rect.unit (s := S2x10000x256) (k0_off10 (grid0.coords t)) S1x10000x256.size (k0_off10_inb (grid0.coords t)))) fp
    (k0_pay2
      ((sw (Ring.sl 3 t.val)).view.readAt (Elt F) (Rect.unit (s := S10000x129) ![0, 0] S10000x1.size inb_S10000x129_S10000x1_0_0).toLoadRect (xslots X (Ring.bk 10 t.val)))
      ((sw (Ring.sl 3 t.val)).view.readAt (Elt F) (Rect.unit (s := S10000x129) ![0, 1] S10000x128.size inb_S10000x129_S10000x128_0_1).toLoadRect (xslots X (Ring.bk 10 t.val)))
      ((Memref.whole cc0_scratch6).view.readAt (Elt F) (Rect.unit (s := S128x256) ![0, 0] S128x256.size inb_S128x256_S128x256_0_0).toLoadRect FT)
      ((Memref.whole cc0_scratch4).view.readAt (Elt F) (Rect.unit (s := S128x256) ![0, 0] S128x256.size inb_S128x256_S128x256_0_0).toLoadRect W2))
    Finset.univ

/-- A slot's slice of the output ring reads what the store's own rectangle does. -/
theorem read_slot (s : Fin 2) (o : Fin 3 → ℕ) (inb) (ho : o = oOff s) (g : S2x10000x256.Idx → Elt F .f32) (j : S10000x256.Idx) :
    (ob s).view.read (Elt F) g j
      = View.read (Elt F) ((Memref.whole cc0_scratch1).access (Rect.unit (s := S2x10000x256) o S1x10000x256.size inb)) g (ix3 (n0 := 1) (n1 := 10000) (n2 := 256) 0 (j 0) (j 1)) := by
  subst ho
  exact congrArg g (ob_emb s j)

/-- A store of one slot of the output ring, read back through the slot's slice. -/
theorem read_store (s : Fin 2) (o : Fin 3 → ℕ) (inb) (ho : o = oOff s) (fp) (v : S1x10000x256.Idx → Elt F .f32) (j : S10000x256.Idx) :
    (ob s).view.read (Elt F) (View.write (Elt F) ((Memref.whole cc0_scratch1).access (Rect.unit (s := S2x10000x256) o S1x10000x256.size inb)) fp v Finset.univ) j
      = v (ix3 (n0 := 1) (n1 := 10000) (n2 := 256) 0 (j 0) (j 1)) :=
  (read_slot s o inb ho _ j).trans (congrFun (View.read_write_univ (v := (Memref.whole cc0_scratch1).access (Rect.unit (s := S2x10000x256) o S1x10000x256.size inb)) fp v) _)

/-- Step `t`'s store, read through the slot, is block `t` of the result. -/
theorem stored_read (t : Fin grid0.N) (fp) :
    (ob (Ring.sl 2 t.val)).view.read (Elt F) (stored c X FT W2 t fp) = yblk X FT W2 (Ring.bk 10 t.val) := by
  funext j
  unfold stored
  have h := read_store (F := F) (Ring.sl 2 t.val) (k0_off10 (grid0.coords t)) (k0_off10_inb (grid0.coords t)) (off10_eq t) fp
  generalize hv : k0_pay2 (F := F) _ _ _ _ = v
  rw [h v j, ← hv, load_ids, load_feats, load_whole, load_whole]
  rfl

/-- The block in output slot `s` that reads as block `b` of the result, on its way out. -/
def inflY (s : Fin 2) (b : Fin 10) : sProp 𝕄 :=
  iprop(∃ fo g, ⌜(ob s).view.read (Elt F) g = yblk X FT W2 b⌝
    ∗ Transfers.Flight countersEmb (c : Thread nD τ) (SemLoc.dma (co s).sem) () ((yb b).view.amount (SemLoc.dma (co s).sem))
      iprop(((yb b).view.loc (c : Thread nD τ) ↦[(yb b).view.set]{fullShare}
          (yb b).view.writes (Elt F) fo [⟨Rect.whole S10000x256, ReadAs.same.apply ((ob s).view.read (Elt F) g)⟩])
        ∗ ((ob s).view.loc (c : Thread nD τ) ↦[(ob s).view.set]{fullShare} g)))

/-- A block of the result written from a slot that reads as it is the result there. -/
theorem behind_of_landed (s : Fin 2) (b : Fin 10) (fo g) (h : (ob s).view.read (Elt F) g = yblk X FT W2 b) :
    ((yb b).view.loc (c : Thread nD τ) ↦[(yb b).view.set]{fullShare}
          (yb b).view.writes (Elt F) fo [⟨Rect.whole S10000x256, ReadAs.same.apply ((ob s).view.read (Elt F) g)⟩] : sProp 𝕄)
      ⊢ behindY c (yAll X FT W2) b := by
  unfold behindY
  refine entails_of_eq (pts_read c (yb b) _ _ ?_)
  rw [View.read_writes_whole, h]
  funext j
  show yblk X FT W2 b j = yAll X FT W2 ((yb b).view.emb j)
  rw [yb_emb]
  unfold yAll
  have h0 : (j 0).val < 10000 := (j 0).isLt
  have hb : (⟨(ix2 (n0 := 100000) (n1 := 256) (xrow b (j 0)) (j 1) 0).val / 10000, by have : (ix2 (n0 := 100000) (n1 := 256) (xrow b (j 0)) (j 1) 0).val < 100000 := (ix2 (n0 := 100000) (n1 := 256) (xrow b (j 0)) (j 1) 0).isLt; omega⟩ : Fin 10) = b :=
    Fin.ext (by show (10000 * b.val + (j 0).val) / 10000 = b.val; omega)
  have hj : (ix2 (n0 := 10000) (n1 := 256) ⟨(ix2 (n0 := 100000) (n1 := 256) (xrow b (j 0)) (j 1) 0).val % 10000, Nat.mod_lt _ (by decide)⟩ (ix2 (n0 := 100000) (n1 := 256) (xrow b (j 0)) (j 1) 1) : S10000x256.Idx) = j := by
    funext a; fin_cases a <;> apply Fin.ext
    · show (10000 * b.val + (j 0).val) % 10000 = _; simp only [Fin.zero_eta]; omega
    · rfl
  rw [hb, hj]

end Mem

end Cert.Proof.Rows

end
-- ==== Proof.Held.lean ====
/-
  What a grid step holds, as the step theorems state it, and a drained input slot handed back.
-/
module

public import proofs.«01_k».proof.Proof.Slots

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UC sig nD τ) ℕ

section
variable (c : Dev nD) (X : S100000x129.Idx → Elt F .f32) (Y : S100000x256.Idx → Elt F .f32)
  (FT W2 : S128x256.Idx → Elt F .bf16)

/-- The kernel's body at step `t`, on its own buffers. -/
abbrev bodyG (t : Fin grid0.N) : Prog (TpuEff nD τ sig (Elt F) Λ₀ .tc) PUnit :=
  cc0__body (F := F) (grid0.coords t) (Memref.whole main_arg0) (Memref.isWhole_whole _) (Memref.whole main_v2) (Memref.isWhole_whole _)
    (Memref.whole main_v3) (Memref.isWhole_whole _) (Memref.whole main_v5) (Memref.isWhole_whole _) (Memref.whole main_v6) (Memref.isWhole_whole _)
    (Memref.whole main_v7) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7 cc0_scratch8 cc0_scratch9 cc0_scratch10

/-- The two tables the steps read: the first holds the products of the padded table with `W`'s upper half plus the bias, the
    second `W`'s lower half. -/
def tabs : sProp 𝕄 :=
  iprop(((Memref.whole cc0_scratch6).view.loc (c : Thread nD τ) ↦[(Memref.whole cc0_scratch6).view.set]{fullShare} FT)
    ∗ ((Memref.whole cc0_scratch4).view.loc (c : Thread nD τ) ↦[(Memref.whole cc0_scratch4).view.set]{fullShare} W2))

abbrev inX (s : Fin 3) (b : Fin 10) : sProp 𝕄 := Ring.inflight (C := fun _ => Unit) (flightX c X) s b
abbrev freeX (s : Fin 3) : sProp 𝕄 := Ring.free (C := fun _ => Unit) (cellX c) (slotX c) s
abbrev doneY (b : Fin 10) : sProp 𝕄 := behindY c (yAll X FT W2) b

/-- A load of a view at its own sizes reads the view. -/
theorem readAt_full {sp : Space} {s : Shape} {e : EltTy} (v : View sig .tc sp s e) {off : Fin s.rank → ℕ} (inb : ∀ a, off a + s.size a ≤ s.size a) (f : v.ty.Contents (Elt F)) :
    v.readAt (Elt F) (Rect.unit off s.size inb).toLoadRect f = v.read (Elt F) f := by
  funext y
  show v.read (Elt F) f _ = _
  congr 1
  funext a
  apply Fin.ext
  show off a + 1 * (y a).val = (y a).val
  have := inb a
  omega

/-- A load of a view at its own sizes after one write of the whole view reads what was written. -/
theorem readCov_whole {sp : Space} {s : Shape} {e : EltTy} (v : View sig .tc sp s e) {off : Fin s.rank → ℕ} (inb : ∀ a, off a + s.size a ≤ s.size a)
    (w : s.Idx → Elt F e) : v.readCov [⟨Rect.whole s, w⟩] (Rect.unit off s.size inb).toLoadRect = w := by
  unfold View.readCov
  rw [readAt_full]
  exact View.read_writes_whole _ _ _

theorem flights_named (s s' : Fin 3) (b b' : Fin 10) (hs : s = s') (hb : b = b') : (inX c X s b : sProp 𝕄) ⊢ inX c X s' b' := by
  subst hs; subst hb; exact .rfl

/-- A drained slot is free again. -/
theorem free_back (s : Fin 3) (f) :
    iprop(semVal ((c : Thread nD τ), SemLoc.dma (ca s).sem) 0 ∗ semVal ((c : Thread nD τ), SemLoc.dma (cc s).sem) 0
      ∗ ((sw s).view.loc (c : Thread nD τ) ↦[(sw s).view.set]{fullShare} f)) ⊢ (freeX c s : sProp 𝕄) := by
  unfold freeX Ring.free cellX
  iintro ⟨Ha, Hc, Hs⟩
  isplitl [Ha Hc]
  · isplitl [Ha]; · iexact Ha
    iexact Hc
  iexists ()
  iapply (slot_split c s f)
  iexact Hs

end

end Cert.Proof.Rows

end
-- ==== Proof.First.lean ====
/-
  The first step: it starts fetching blocks 0 and 1, copies the padded table, `W` and the bias in, computes the small table,
  and then does what every step does.
-/
module

public import proofs.«01_k».proof.Proof.Held
public import Idealize.ShloMosaic.Lib.VecWindow

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UC sig nD τ) ℕ

section
variable (c : Dev nD) (X : S100000x129.Idx → Elt F .f32) (Y : S100000x256.Idx → Elt F .f32)
  (FT W2 : S128x256.Idx → Elt F .bf16)

/-- The copied `W` and the stored small table are the two tables. -/
theorem tabs_in (A2 : S128x256.Idx → Elt F .f32) (A3 : S256x256.Idx → Elt F .f32) (A6 : S1x256.Idx → Elt F .f32) (e4 e6) :
    iprop(((Memref.whole cc0_scratch4).view.loc (c : Thread nD τ) ↦[(Memref.whole cc0_scratch4).view.set]{fullShare}
          (Memref.whole cc0_scratch4).view.writes (Elt F) e4 [⟨Rect.whole cc0_scratch4.ty.shape, ReadAs.same.apply ((Memref.whole main_v5).view.read (Elt F) W2)⟩])
        ∗ ((Memref.whole cc0_scratch6).view.loc (c : Thread nD τ) ↦[(Memref.whole cc0_scratch6).view.set]{fullShare}
          (Memref.whole cc0_scratch6).view.writes (Elt F) e6 [⟨Rect.unit (s := S128x256) ![0, 0] S128x256.size inb_S128x256_S128x256_0_0,
            k0_pay1
              ((Memref.whole cc0_scratch2).view.readCov [⟨Rect.whole cc0_scratch2.ty.shape, ReadAs.same.apply ((Memref.whole main_v2).view.read (Elt F) A2)⟩] (Rect.unit (s := S128x256) ![0, 0] S128x256.size inb_S128x256_S128x256_0_0).toLoadRect)
              ((Memref.whole cc0_scratch3).view.readCov [⟨Rect.whole cc0_scratch3.ty.shape, ReadAs.same.apply ((Memref.whole main_v3).view.read (Elt F) A3)⟩] (Rect.unit (s := S256x256) ![0, 0] S256x256.size inb_S256x256_S256x256_0_0).toLoadRect)
              ((Memref.whole cc0_scratch5).view.readCov [⟨Rect.whole cc0_scratch5.ty.shape, ReadAs.same.apply ((Memref.whole main_v6).view.read (Elt F) A6)⟩] (Rect.unit (s := S1x256) ![0, 0] S1x256.size inb_S1x256_S1x256_0_0).toLoadRect)⟩]))
      ⊢ (tabs c (k0_pay1 A2 A3 A6) W2 : sProp 𝕄) := by
  have h2 : (Memref.whole cc0_scratch2).view.readCov [⟨Rect.whole cc0_scratch2.ty.shape, ReadAs.same.apply ((Memref.whole main_v2).view.read (Elt F) A2)⟩] (Rect.unit (s := S128x256) ![0, 0] S128x256.size inb_S128x256_S128x256_0_0).toLoadRect = A2 :=
    readCov_whole (F := F) (Memref.whole cc0_scratch2).view inb_S128x256_S128x256_0_0 A2
  have h3 : (Memref.whole cc0_scratch3).view.readCov [⟨Rect.whole cc0_scratch3.ty.shape, ReadAs.same.apply ((Memref.whole main_v3).view.read (Elt F) A3)⟩] (Rect.unit (s := S256x256) ![0, 0] S256x256.size inb_S256x256_S256x256_0_0).toLoadRect = A3 :=
    readCov_whole (F := F) (Memref.whole cc0_scratch3).view inb_S256x256_S256x256_0_0 A3
  have h6 : (Memref.whole cc0_scratch5).view.readCov [⟨Rect.whole cc0_scratch5.ty.shape, ReadAs.same.apply ((Memref.whole main_v6).view.read (Elt F) A6)⟩] (Rect.unit (s := S1x256) ![0, 0] S1x256.size inb_S1x256_S1x256_0_0).toLoadRect = A6 :=
    readCov_whole (F := F) (Memref.whole cc0_scratch5).view inb_S1x256_S1x256_0_0 A6
  rw [h2, h3, h6]
  unfold tabs
  iintro ⟨H4, H6⟩
  isplitl [H6]
  · iapply (entails_of_eq (pts_read c (Memref.whole cc0_scratch6) _ (k0_pay1 A2 A3 A6) (View.read_writes_full _ _ _ _ _)))
    iexact H6
  iapply (entails_of_eq (pts_read c (Memref.whole cc0_scratch4) _ W2 (View.read_writes_whole _ _ _)))
  iexact H4

/-- The first step: what it takes and what it hands back. -/
theorem zeroRun (t : Fin grid0.N) (h0 : t.val = 0) (W : Waits sig Unit) (A2 : S128x256.Idx → Elt F .f32) (A3 : S256x256.Idx → Elt F .f32) (A6 : S1x256.Idx → Elt F .f32)
    (Q : PUnit → sProp 𝕄) :
    iprop(owes (c : Thread nD τ) 0 W
      ∗ homeX c X 0 ∗ homeX c X 1 ∗ homeX c X (bk 10 (t.val + 2)) ∗ freeX c 0 ∗ freeX c 1 ∗ freeX c (sl 3 (t.val + 2))
      ∗ aheadY c (bk 10 t.val) ∗ freeY c (sl 2 t.val)
      ∗ semVal ((c : Thread nD τ), SemLoc.dma cc0_scratch10.sem) 0
      ∗ ((Memref.whole main_v2).view.loc (c : Thread nD τ) ↦[(Memref.whole main_v2).view.set]{fullShare} A2)
      ∗ ((Memref.whole main_v3).view.loc (c : Thread nD τ) ↦[(Memref.whole main_v3).view.set]{fullShare} A3)
      ∗ ((Memref.whole main_v5).view.loc (c : Thread nD τ) ↦[(Memref.whole main_v5).view.set]{fullShare} W2)
      ∗ ((Memref.whole main_v6).view.loc (c : Thread nD τ) ↦[(Memref.whole main_v6).view.set]{fullShare} A6)
      ∗ (∃ f, (Memref.whole cc0_scratch2).view.loc (c : Thread nD τ) ↦[(Memref.whole cc0_scratch2).view.set]{fullShare} f)
      ∗ (∃ f, (Memref.whole cc0_scratch3).view.loc (c : Thread nD τ) ↦[(Memref.whole cc0_scratch3).view.set]{fullShare} f)
      ∗ (∃ f, (Memref.whole cc0_scratch4).view.loc (c : Thread nD τ) ↦[(Memref.whole cc0_scratch4).view.set]{fullShare} f)
      ∗ (∃ f, (Memref.whole cc0_scratch5).view.loc (c : Thread nD τ) ↦[(Memref.whole cc0_scratch5).view.set]{fullShare} f)
      ∗ (∃ f, (Memref.whole cc0_scratch6).view.loc (c : Thread nD τ) ↦[(Memref.whole cc0_scratch6).view.set]{fullShare} f)
      ∗ ((∃ W', owes (c : Thread nD τ) 0 W') ∗ homeX c X (bk 10 t.val) ∗ inX c X (sl 3 (t.val + 1)) (bk 10 (t.val + 1)) ∗ inX c X (sl 3 (t.val + 2)) (bk 10 (t.val + 2)) ∗ freeX c (sl 3 t.val)
          ∗ inflY c X (k0_pay1 A2 A3 A6) W2 (sl 2 t.val) (bk 10 t.val) ∗ tabs c (k0_pay1 A2 A3 A6) W2
          ∗ semVal ((c : Thread nD τ), SemLoc.dma cc0_scratch10.sem) 0
          ∗ ((Memref.whole main_v2).view.loc (c : Thread nD τ) ↦[(Memref.whole main_v2).view.set]{fullShare} A2)
          ∗ ((Memref.whole main_v3).view.loc (c : Thread nD τ) ↦[(Memref.whole main_v3).view.set]{fullShare} A3)
          ∗ ((Memref.whole main_v5).view.loc (c : Thread nD τ) ↦[(Memref.whole main_v5).view.set]{fullShare} W2)
          ∗ ((Memref.whole main_v6).view.loc (c : Thread nD τ) ↦[(Memref.whole main_v6).view.set]{fullShare} A6)
          ∗ (∃ f, (Memref.whole cc0_scratch2).view.loc (c : Thread nD τ) ↦[(Memref.whole cc0_scratch2).view.set]{fullShare} f)
          ∗ (∃ f, (Memref.whole cc0_scratch3).view.loc (c : Thread nD τ) ↦[(Memref.whole cc0_scratch3).view.set]{fullShare} f)
          ∗ (∃ f, (Memref.whole cc0_scratch5).view.loc (c : Thread nD τ) ↦[(Memref.whole cc0_scratch5).view.set]{fullShare} f) -∗ Q ⟨⟩))
      ⊢ wp frame (wpE (defs₀ (F := F)) 𝒱₀ (c : Thread nD τ) none) Set.univ (bodyG t) Q := by
  have hc1 : cond1 (grid0.coords t) := (cond1_iff t).2 h0
  have hc2 : ¬ k0_cond2 (grid0.coords t) = 1#1 := by rw [cond2_iff]; omega
  have h8 : t.val + 2 < 10 := by omega
  have hc3 : k0_cond3 (grid0.coords t) = 1#1 := (cond3_iff t).2 h8
  have hc4 : ¬ k0_cond4 (grid0.coords t) = 1#1 := by rw [cond4_iff]; omega
  unfold homeX freeX Ring.free cellX slotX aheadY freeY inflY
  iintro ⟨HW, ⟨HX0a, HX0c⟩, ⟨HX1a, HX1c⟩, ⟨HXa, HXc⟩, ⟨⟨Hc0a, Hc0c⟩, ⟨%_, ⟨%f0, Hs0a⟩, ⟨%g0, Hs0c⟩⟩⟩, ⟨⟨Hc1a, Hc1c⟩, ⟨%_, ⟨%f1, Hs1a⟩, ⟨%g1, Hs1c⟩⟩⟩,
    ⟨⟨Hca, Hcc⟩, ⟨%_, ⟨%fx, Hsa⟩, ⟨%fy, Hsc⟩⟩⟩, ⟨%fo, Hy⟩, ⟨Ho, ⟨%fp, Hob⟩⟩, Hcs, H2, H3, H5, H6, ⟨%e2, HS2⟩, ⟨%e3, HS3⟩, ⟨%e4, HS4⟩, ⟨%e5, HS5⟩, ⟨%e6, HS6⟩, HQ⟩
  sl_exec
  ihave Hin := (flights_named c X 0 (sl 3 t.val) 0 (bk 10 t.val) (by rw [h0]; decide) (by rw [h0]; decide)) $$ [Hc0a Hc0c]
  · unfold inX Ring.inflight flightX
    iexists ()
    isplitl [Hc0a]
    · iexists f0; iexact Hc0a
    iexists g0; iexact Hc0c
  ihave Hin1 := (flights_named c X 1 (sl 3 (t.val + 1)) 1 (bk 10 (t.val + 1)) (by rw [h0]; decide) (by rw [h0]; decide)) $$ [Hc1a Hc1c]
  · unfold inX Ring.inflight flightX
    iexists ()
    isplitl [Hc1a]
    · iexists f1; iexact Hc1a
    iexists g1; iexact Hc1c
  ihave HT := (tabs_in c W2 A2 A3 A6 e4 e6) $$ [HS4 HS6]
  · isplitl [HS4]
    · iexact HS4
    iexact HS6
  unfold inX Ring.inflight flightX tabs
  icases Hin with ⟨%_, ⟨%fa, Hfa⟩, ⟨%fc, Hfc⟩⟩
  icases HT with ⟨HF, HL⟩
  sl_exec
  ihave Hs := (slot_join c X (sl 3 t.val) (bk 10 t.val) fa fc) $$ [Hfa_dst Hfc_dst]
  · isplitl [Hfa_dst]
    · iexact Hfa_dst
    iexact Hfc_dst
  sl_exec
  ihave Hfr := (free_back c (sl 3 t.val) _) $$ [Hfa Hfc Hs]
  · isplitl [Hfa]
    · iexact Hfa
    isplitl [Hfc]
    · iexact Hfc
    iexact Hs
  sl_step
  iapply HQ
  isplitl [HW]
  · iexists _; iexact HW
  isplitl [Hfa_src Hfc_src]
  · isplitl [Hfa_src]
    · iexact Hfa_src
    iexact Hfc_src
  isplitl [Hin1]
  · iexact Hin1
  isplitl [Hca Hcc]
  · iexists ()
    isplitl [Hca]
    · iexists fx; iexact Hca
    iexists fy; iexact Hcc
  isplitl [Hfr]
  · iexact Hfr
  isplitl [Ho]
  · iexists fo; iexists (stored c X (k0_pay1 A2 A3 A6) W2 t fp)
    isplitr
    · ipureintro; exact stored_read c X (k0_pay1 A2 A3 A6) W2 t fp
    iexact Ho
  isplitl [HF HL]
  · isplitl [HF]
    · iexact HF
    iexact HL
  isplitl [Hcs]
  · iexact Hcs
  isplitl [H2]
  · iexact H2
  isplitl [H3]
  · iexact H3
  isplitl [H5]
  · iexact H5
  isplitl [H6]
  · iexact H6
  isplitl [HS2]
  · iexists _; iexact HS2
  isplitl [HS3]
  · iexists _; iexact HS3
  iexists _; iexact HS5

end

end Cert.Proof.Rows

end
-- ==== Proof.Second.lean ====
/-
  The second step: like a later one, but with no copy-out to wait for: its output slot is still free.
-/
module

public import proofs.«01_k».proof.Proof.Held

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UC sig nD τ) ℕ

section
variable (c : Dev nD) (X : S100000x129.Idx → Elt F .f32) (Y : S100000x256.Idx → Elt F .f32)
  (FT W2 : S128x256.Idx → Elt F .bf16)

/-- Step 1: what it takes and what it hands back. -/
theorem oneRun (t : Fin grid0.N) (h1 : t.val = 1) (W : Waits sig Unit)
    (Q : PUnit → sProp 𝕄) :
    iprop(owes (c : Thread nD τ) 0 W
      ∗ homeX c X (bk 10 (t.val + 2)) ∗ inX c X (sl 3 t.val) (bk 10 t.val) ∗ freeX c (sl 3 (t.val + 2))
      ∗ aheadY c (bk 10 t.val) ∗ freeY c (sl 2 t.val) ∗ tabs c FT W2
      ∗ ((∃ W', owes (c : Thread nD τ) 0 W') ∗ homeX c X (bk 10 t.val) ∗ inX c X (sl 3 (t.val + 2)) (bk 10 (t.val + 2)) ∗ freeX c (sl 3 t.val)
          ∗ inflY c X FT W2 (sl 2 t.val) (bk 10 t.val) ∗ tabs c FT W2 -∗ Q ⟨⟩))
      ⊢ wp frame (wpE (defs₀ (F := F)) 𝒱₀ (c : Thread nD τ) none) Set.univ (bodyG t) Q := by
  have hc1 : ¬ cond1 (grid0.coords t) := by rw [cond1_iff]; omega
  have hc2 : ¬ k0_cond2 (grid0.coords t) = 1#1 := by rw [cond2_iff]; omega
  have h8 : t.val + 2 < 10 := by omega
  have hc3 : k0_cond3 (grid0.coords t) = 1#1 := (cond3_iff t).2 h8
  have hc4 : ¬ k0_cond4 (grid0.coords t) = 1#1 := by rw [cond4_iff]; omega
  unfold homeX inX freeX Ring.inflight Ring.free flightX cellX slotX aheadY freeY inflY tabs
  iintro ⟨HW, ⟨HXa, HXc⟩, ⟨%_, ⟨%fa, Hfa⟩, ⟨%fc, Hfc⟩⟩, ⟨⟨Hca, Hcc⟩, ⟨%_, ⟨%fx, Hsa⟩, ⟨%fy, Hsc⟩⟩⟩, ⟨%fo, Hy⟩, ⟨Ho, ⟨%fp, Hob⟩⟩, ⟨HF, H2⟩, HQ⟩
  sl_exec
  ihave Hs := (slot_join c X (sl 3 t.val) (bk 10 t.val) fa fc) $$ [Hfa_dst Hfc_dst]
  · isplitl [Hfa_dst]
    · iexact Hfa_dst
    iexact Hfc_dst
  sl_exec
  ihave Hfr := (free_back c (sl 3 t.val) _) $$ [Hfa Hfc Hs]
  · isplitl [Hfa]
    · iexact Hfa
    isplitl [Hfc]
    · iexact Hfc
    iexact Hs
  sl_step
  iapply HQ
  isplitl [HW]
  · iexists _; iexact HW
  isplitl [Hfa_src Hfc_src]
  · isplitl [Hfa_src]
    · iexact Hfa_src
    iexact Hfc_src
  isplitl [Hca Hcc]
  · iexists ()
    isplitl [Hca]
    · iexists fx; iexact Hca
    iexists fy; iexact Hcc
  isplitl [Hfr]
  · iexact Hfr
  isplitl [Ho]
  · iexists fo; iexists (stored c X FT W2 t fp)
    isplitr
    · ipureintro; exact stored_read c X FT W2 t fp
    iexact Ho
  isplitl [HF]
  · iexact HF
  iexact H2

end

end Cert.Proof.Rows

end
-- ==== Proof.Mid.lean ====
/-
  A step in the middle of the run (`2 ≤ t ≤ 7`): it waits its block of `x`, waits the copy-out of block `t - 2`, computes
  its block of the result into that output slot, starts the copy-out and starts fetching block `t + 2`.
-/
module

public import proofs.«01_k».proof.Proof.Held

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UC sig nD τ) ℕ

section
variable (c : Dev nD) (X : S100000x129.Idx → Elt F .f32) (Y : S100000x256.Idx → Elt F .f32)
  (FT W2 : S128x256.Idx → Elt F .bf16)

/-- Step `t`, `2 ≤ t ≤ 7`: what it takes and what it hands back. -/
theorem midRun (t : Fin grid0.N) (h2 : 2 ≤ t.val) (h8 : t.val + 2 < 10) (W : Waits sig Unit)
    (Q : PUnit → sProp 𝕄) :
    iprop(owes (c : Thread nD τ) 0 W
      ∗ homeX c X (bk 10 (t.val + 2)) ∗ inX c X (sl 3 t.val) (bk 10 t.val) ∗ freeX c (sl 3 (t.val + 2))
      ∗ aheadY c (bk 10 t.val) ∗ inflY c X FT W2 (sl 2 t.val) (bk 10 (t.val - 2)) ∗ tabs c FT W2
      ∗ ((∃ W', owes (c : Thread nD τ) 0 W') ∗ homeX c X (bk 10 t.val) ∗ inX c X (sl 3 (t.val + 2)) (bk 10 (t.val + 2)) ∗ freeX c (sl 3 t.val)
          ∗ doneY c X FT W2 (bk 10 (t.val - 2)) ∗ inflY c X FT W2 (sl 2 t.val) (bk 10 t.val) ∗ tabs c FT W2 -∗ Q ⟨⟩))
      ⊢ wp frame (wpE (defs₀ (F := F)) 𝒱₀ (c : Thread nD τ) none) Set.univ (bodyG t) Q := by
  have hc1 : ¬ cond1 (grid0.coords t) := by rw [cond1_iff]; omega
  have hc2 : k0_cond2 (grid0.coords t) = 1#1 := (cond2_iff t).2 h2
  have hc3 : k0_cond3 (grid0.coords t) = 1#1 := (cond3_iff t).2 h8
  have hc4 : ¬ k0_cond4 (grid0.coords t) = 1#1 := by rw [cond4_iff]; omega
  unfold homeX inX freeX Ring.inflight Ring.free flightX cellX slotX aheadY inflY tabs
  iintro ⟨HW, ⟨HXa, HXc⟩, ⟨%_, ⟨%fa, Hfa⟩, ⟨%fc, Hfc⟩⟩, ⟨⟨Hca, Hcc⟩, ⟨%_, ⟨%fx, Hsa⟩, ⟨%fy, Hsc⟩⟩⟩, ⟨%fo, Hy⟩, ⟨%fr, %fp, %hfp, Ho⟩, ⟨HF, H2⟩, HQ⟩
  sl_exec
  ihave Hs := (slot_join c X (sl 3 t.val) (bk 10 t.val) fa fc) $$ [Hfa_dst Hfc_dst]
  · isplitl [Hfa_dst]
    · iexact Hfa_dst
    iexact Hfc_dst
  sl_exec
  ihave Hd := (behind_of_landed c X FT W2 (sl 2 t.val) (bk 10 (t.val - 2)) fr fp hfp) $$ [Ho_dst]
  · iexact Ho_dst
  ihave Hfr := (free_back c (sl 3 t.val) _) $$ [Hfa Hfc Hs]
  · isplitl [Hfa]
    · iexact Hfa
    isplitl [Hfc]
    · iexact Hfc
    iexact Hs
  sl_step
  iapply HQ
  isplitl [HW]
  · iexists _; iexact HW
  isplitl [Hfa_src Hfc_src]
  · isplitl [Hfa_src]
    · iexact Hfa_src
    iexact Hfc_src
  isplitl [Hca Hcc]
  · iexists ()
    isplitl [Hca]
    · iexists fx; iexact Hca
    iexists fy; iexact Hcc
  isplitl [Hfr]
  · iexact Hfr
  isplitl [Hd]
  · iexact Hd
  isplitl [Ho]
  · iexists fo; iexists (stored c X FT W2 t fp)
    isplitr
    · ipureintro; exact stored_read c X FT W2 t fp
    iexact Ho
  isplitl [HF]
  · iexact HF
  iexact H2

end

end Cert.Proof.Rows

end
-- ==== Proof.Last.lean ====
/-
  The last two steps: no block of `x` is left to fetch; the very last one also waits the two copy-outs still under way.
-/
module

public import proofs.«01_k».proof.Proof.Held

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UC sig nD τ) ℕ

section
variable (c : Dev nD) (X : S100000x129.Idx → Elt F .f32) (Y : S100000x256.Idx → Elt F .f32)
  (FT W2 : S128x256.Idx → Elt F .bf16)

/-- The step before the last: what it takes and what it hands back. -/
theorem eightRun (t : Fin grid0.N) (h8 : t.val = 8) (W : Waits sig Unit)
    (Q : PUnit → sProp 𝕄) :
    iprop(owes (c : Thread nD τ) 0 W
      ∗ inX c X (sl 3 t.val) (bk 10 t.val)
      ∗ aheadY c (bk 10 t.val) ∗ inflY c X FT W2 (sl 2 t.val) (bk 10 (t.val - 2)) ∗ tabs c FT W2
      ∗ ((∃ W', owes (c : Thread nD τ) 0 W') ∗ homeX c X (bk 10 t.val) ∗ freeX c (sl 3 t.val)
          ∗ doneY c X FT W2 (bk 10 (t.val - 2)) ∗ inflY c X FT W2 (sl 2 t.val) (bk 10 t.val) ∗ tabs c FT W2 -∗ Q ⟨⟩))
      ⊢ wp frame (wpE (defs₀ (F := F)) 𝒱₀ (c : Thread nD τ) none) Set.univ (bodyG t) Q := by
  have hc1 : ¬ cond1 (grid0.coords t) := by rw [cond1_iff]; omega
  have hc2 : k0_cond2 (grid0.coords t) = 1#1 := (cond2_iff t).2 (by omega)
  have h2 : 2 ≤ t.val := by omega
  have hc3 : ¬ k0_cond3 (grid0.coords t) = 1#1 := by rw [cond3_iff]; omega
  have hc4 : ¬ k0_cond4 (grid0.coords t) = 1#1 := by rw [cond4_iff]; omega
  unfold homeX inX freeX Ring.inflight Ring.free flightX cellX slotX aheadY inflY tabs
  iintro ⟨HW, ⟨%_, ⟨%fa, Hfa⟩, ⟨%fc, Hfc⟩⟩, ⟨%fo, Hy⟩, ⟨%fr, %fp, %hfp, Ho⟩, ⟨HF, H2⟩, HQ⟩
  sl_exec
  ihave Hs := (slot_join c X (sl 3 t.val) (bk 10 t.val) fa fc) $$ [Hfa_dst Hfc_dst]
  · isplitl [Hfa_dst]
    · iexact Hfa_dst
    iexact Hfc_dst
  sl_exec
  ihave Hd := (behind_of_landed c X FT W2 (sl 2 t.val) (bk 10 (t.val - 2)) fr fp hfp) $$ [Ho_dst]
  · iexact Ho_dst
  ihave Hfr := (free_back c (sl 3 t.val) _) $$ [Hfa Hfc Hs]
  · isplitl [Hfa]
    · iexact Hfa
    isplitl [Hfc]
    · iexact Hfc
    iexact Hs
  sl_step
  iapply HQ
  isplitl [HW]
  · iexists _; iexact HW
  isplitl [Hfa_src Hfc_src]
  · isplitl [Hfa_src]
    · iexact Hfa_src
    iexact Hfc_src
  isplitl [Hfr]
  · iexact Hfr
  isplitl [Hd]
  · iexact Hd
  isplitl [Ho]
  · iexists fo; iexists (stored c X FT W2 t fp)
    isplitr
    · ipureintro; exact stored_read c X FT W2 t fp
    iexact Ho
  isplitl [HF]
  · iexact HF
  iexact H2

/-- The last step: what it takes and what it hands back. -/
theorem nineRun (t : Fin grid0.N) (h9 : t.val = 9) (W : Waits sig Unit)
    (Q : PUnit → sProp 𝕄) :
    iprop(owes (c : Thread nD τ) 0 W
      ∗ inX c X (sl 3 t.val) (bk 10 t.val)
      ∗ aheadY c (bk 10 t.val) ∗ inflY c X FT W2 (sl 2 t.val) (bk 10 (t.val - 2)) ∗ inflY c X FT W2 (sl 2 (t.val + 1)) (bk 10 (t.val - 1)) ∗ tabs c FT W2
      ∗ ((∃ W', owes (c : Thread nD τ) 0 W') ∗ homeX c X (bk 10 t.val) ∗ freeX c (sl 3 t.val)
          ∗ (doneY c X FT W2 (bk 10 t.val) ∗ doneY c X FT W2 (bk 10 (t.val - 2)) ∗ doneY c X FT W2 (bk 10 (t.val - 1))) ∗ freeY c (sl 2 t.val) ∗ freeY c (sl 2 (t.val + 1)) ∗ tabs c FT W2 -∗ Q ⟨⟩))
      ⊢ wp frame (wpE (defs₀ (F := F)) 𝒱₀ (c : Thread nD τ) none) Set.univ (bodyG t) Q := by
  have hc1 : ¬ cond1 (grid0.coords t) := by rw [cond1_iff]; omega
  have hc2 : k0_cond2 (grid0.coords t) = 1#1 := (cond2_iff t).2 (by omega)
  have h2 : 2 ≤ t.val := by omega
  have hc3 : ¬ k0_cond3 (grid0.coords t) = 1#1 := by rw [cond3_iff]; omega
  have hc4 : k0_cond4 (grid0.coords t) = 1#1 := (cond4_iff t).2 h9
  unfold homeX inX freeX Ring.inflight Ring.free flightX cellX slotX aheadY freeY inflY tabs
  iintro ⟨HW, ⟨%_, ⟨%fa, Hfa⟩, ⟨%fc, Hfc⟩⟩, ⟨%fo, Hy⟩, ⟨%fr, %fp, %hfp, Ho⟩, ⟨%fq, %gq, %hgq, Hq⟩, ⟨HF, H2⟩, HQ⟩
  sl_exec
  ihave Hs := (slot_join c X (sl 3 t.val) (bk 10 t.val) fa fc) $$ [Hfa_dst Hfc_dst]
  · isplitl [Hfa_dst]
    · iexact Hfa_dst
    iexact Hfc_dst
  sl_exec
  ihave Hd := (behind_of_landed c X FT W2 (sl 2 t.val) (bk 10 (t.val - 2)) fr fp hfp) $$ [Ho_dst]
  · iexact Ho_dst
  ihave Hd1 := (behind_of_landed c X FT W2 (sl 2 (t.val + 1)) (bk 10 (t.val - 1)) fq gq hgq) $$ [Hq_dst]
  · iexact Hq_dst
  ihave Hd0 := (behind_of_landed c X FT W2 (sl 2 t.val) (bk 10 t.val) fo (stored c X FT W2 t fp) (stored_read c X FT W2 t fp)) $$ [Hy]
  · iexact Hy
  ihave Hfr := (free_back c (sl 3 t.val) _) $$ [Hfa Hfc Hs]
  · isplitl [Hfa]
    · iexact Hfa
    isplitl [Hfc]
    · iexact Hfc
    iexact Hs
  sl_step
  iapply HQ
  isplitl [HW]
  · iexists _; iexact HW
  isplitl [Hfa_src Hfc_src]
  · isplitl [Hfa_src]
    · iexact Hfa_src
    iexact Hfc_src
  isplitl [Hfr]
  · iexact Hfr
  isplitl [Hd Hd1 Hd0]
  · isplitl [Hd0]
    · iexact Hd0
    isplitl [Hd]
    · iexact Hd
    iexact Hd1
  isplitl [Ho Ho_src]
  · isplitl [Ho]
    · iexact Ho
    iexists _; iexact Ho_src
  isplitl [Hq Hq_src]
  · isplitl [Hq]
    · iexact Hq
    iexists _; iexact Hq_src
  isplitl [HF]
  · iexact HF
  iexact H2

end

end Cert.Proof.Rows

end
-- ==== Proof.Steps.lean ====
/-
  What the kernel holds before every step of its grid (`Inv`), and each step taking it to the next: the input ring two
  blocks ahead, the output ring two blocks behind, the two small tables once the first step has made them.
-/
module

public import proofs.«01_k».proof.Proof.First
public import proofs.«01_k».proof.Proof.Second
public import proofs.«01_k».proof.Proof.Mid
public import proofs.«01_k».proof.Proof.Last
public import Idealize.ShloMosaic.Lib.Ring.WriteBehind

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UC sig nD τ) ℕ

section
variable (c : Dev nD) (X : S100000x129.Idx → Elt F .f32) (FT W2 : S128x256.Idx → Elt F .bf16)
  (A2 : S128x256.Idx → Elt F .f32) (A3 : S256x256.Idx → Elt F .f32) (A6 : S1x256.Idx → Elt F .f32)

/-- The input ring before step `p`. -/
def ringX (p : ℕ) : sProp 𝕄 :=
  if p = 0 then Ring.At₀ (C := fun _ => Unit) (cellX c) (slotX c) (homeX c X)
  else Ring.At (C := fun _ => Unit) 2 (cellX c) (slotX c) (homeX c X) (flightX c X) p
/-- The output ring before step `p`. -/
def ringY (p : ℕ) : sProp 𝕄 := Ring.AtBΦ 2 (freeY c) (inflY c X FT W2) (aheadY c) (behindY c (yAll X FT W2)) p
/-- The two tables: made from step 1 on. -/
def tables (p : ℕ) : sProp 𝕄 :=
  if p = 0 then iprop((∃ f, (Memref.whole cc0_scratch4).view.loc (c : Thread nD τ) ↦[(Memref.whole cc0_scratch4).view.set]{fullShare} f)
      ∗ (∃ f, (Memref.whole cc0_scratch6).view.loc (c : Thread nD τ) ↦[(Memref.whole cc0_scratch6).view.set]{fullShare} f))
  else tabs c FT W2
/-- What only the first step touches. -/
def side : sProp 𝕄 :=
  iprop(semVal ((c : Thread nD τ), SemLoc.dma cc0_scratch10.sem) 0
    ∗ ((Memref.whole main_v2).view.loc (c : Thread nD τ) ↦[(Memref.whole main_v2).view.set]{fullShare} A2)
    ∗ ((Memref.whole main_v3).view.loc (c : Thread nD τ) ↦[(Memref.whole main_v3).view.set]{fullShare} A3)
    ∗ ((Memref.whole main_v5).view.loc (c : Thread nD τ) ↦[(Memref.whole main_v5).view.set]{fullShare} W2)
    ∗ ((Memref.whole main_v6).view.loc (c : Thread nD τ) ↦[(Memref.whole main_v6).view.set]{fullShare} A6)
    ∗ (∃ f, (Memref.whole cc0_scratch2).view.loc (c : Thread nD τ) ↦[(Memref.whole cc0_scratch2).view.set]{fullShare} f)
    ∗ (∃ f, (Memref.whole cc0_scratch3).view.loc (c : Thread nD τ) ↦[(Memref.whole cc0_scratch3).view.set]{fullShare} f)
    ∗ (∃ f, (Memref.whole cc0_scratch5).view.loc (c : Thread nD τ) ↦[(Memref.whole cc0_scratch5).view.set]{fullShare} f))

/-- What the kernel holds before step `p`. -/
def Inv (p : ℕ) : sProp 𝕄 :=
  iprop(ringX c X p ∗ ringY c X (k0_pay1 A2 A3 A6) W2 p ∗ tables c (k0_pay1 A2 A3 A6) W2 p ∗ side c W2 A2 A3 A6)

/-! ## The rings opened -/

theorem ringX_zero (k : ℕ) (hk : k = 0) : (ringX c X k : sProp 𝕄)
    = iprop((homeX c X (bk 10 k) ∗ homeX c X (bk 10 (k + 1)) ∗ homeX c X (bk 10 (k + 2)) ∗ bigSep ((Ring.homeSet 2 0).erase (bk 10 2)) (homeX c X))
        ∗ freeX c (sl 3 k) ∗ freeX c (sl 3 (k + 1)) ∗ freeX c (sl 3 (k + 2))) := by
  unfold ringX; rw [if_pos hk]; exact Ring.At₀_eq3' _ _ _ k hk (by decide)
theorem ringX_one (k : ℕ) (hk : k = 0) : (ringX c X (k + 1) : sProp 𝕄)
    = iprop((homeX c X (bk 10 k) ∗ bigSep ((Ring.homeSet 2 0).erase (bk 10 2)) (homeX c X))
        ∗ inX c X (sl 3 (k + 1)) (bk 10 (k + 1)) ∗ inX c X (sl 3 (k + 2)) (bk 10 (k + 2)) ∗ freeX c (sl 3 k)) := by
  unfold ringX; rw [if_neg (by omega)]; exact Ring.At3_one' _ _ _ _ k hk (by decide)
theorem ringX_here (k : ℕ) (h1 : 1 ≤ k) (h : k + 2 < 10) : (ringX c X k : sProp 𝕄)
    = iprop((homeX c X (bk 10 (k + 2)) ∗ bigSep ((Ring.homeSet 2 k).erase (bk 10 (k + 2))) (homeX c X))
        ∗ inX c X (sl 3 k) (bk 10 k) ∗ inX c X (sl 3 (k + 1)) (bk 10 (k + 1)) ∗ freeX c (sl 3 (k + 2))) := by
  unfold ringX; rw [if_neg (by omega)]; exact Ring.At3_here _ _ _ _ k h
theorem ringX_next (k : ℕ) (h : k + 2 < 10) : (ringX c X (k + 1) : sProp 𝕄)
    = iprop((homeX c X (bk 10 k) ∗ bigSep ((Ring.homeSet 2 k).erase (bk 10 (k + 2))) (homeX c X))
        ∗ inX c X (sl 3 (k + 1)) (bk 10 (k + 1)) ∗ inX c X (sl 3 (k + 2)) (bk 10 (k + 2)) ∗ freeX c (sl 3 k)) := by
  unfold ringX; rw [if_neg (by omega), Ring.At3_next _ _ _ _ k h, Ring.slotAt3_next0 _ _ _ k (by omega), Ring.slotAt3_next1 _ _ _ k h]
theorem ringX_tail (k : ℕ) (h1 : 1 ≤ k) (h : k < 10) : (ringX c X k : sProp 𝕄)
    = iprop(bigSep (Ring.homeSet 2 k) (homeX c X)
        ∗ inX c X (sl 3 k) (bk 10 k) ∗ Ring.slotAt (C := fun _ => Unit) 2 (cellX c) (slotX c) (flightX c X) k 1 ∗ freeX c (sl 3 (k + 2))) := by
  unfold ringX; rw [if_neg (by omega)]; exact Ring.At3_here_tail _ _ _ _ k h
theorem ringX_tail_next (k : ℕ) (h8 : 10 ≤ k + 2) (h : k < 10) : (ringX c X (k + 1) : sProp 𝕄)
    = iprop((homeX c X (bk 10 k) ∗ bigSep (Ring.homeSet 2 k) (homeX c X))
        ∗ Ring.slotAt (C := fun _ => Unit) 2 (cellX c) (slotX c) (flightX c X) k 1 ∗ freeX c (sl 3 (k + 2)) ∗ freeX c (sl 3 k)) := by
  unfold ringX; rw [if_neg (by omega), Ring.At3_next_tail _ _ _ _ k h8 h, Ring.slotAt3_tail_role]

theorem ringY_zero (k : ℕ) (hk : k = 0) : (ringY c X FT W2 k : sProp 𝕄)
    = iprop((aheadY c (bk 10 k) ∗ bigSep (Ring.aheadSet (k + 1)) (aheadY c)) ∗ freeY c (sl 2 k) ∗ freeY c (sl 2 (k + 1))) := by
  unfold ringY; rw [Ring.AtBΦ_lt _ _ _ _ _ k (by omega)]; exact Ring.AtB2_zero' 2 _ _ _ _ k hk
theorem ringY_zero_next (k : ℕ) (hk : k = 0) : (ringY c X FT W2 (k + 1) : sProp 𝕄)
    = iprop(bigSep (Ring.aheadSet (k + 1)) (aheadY c) ∗ freeY c (sl 2 (k + 1)) ∗ inflY c X FT W2 (sl 2 k) (bk 10 k)) := by
  unfold ringY; rw [Ring.AtBΦ_lt _ _ _ _ _ (k + 1) (by omega)]; exact Ring.AtB22_next_zero' _ _ _ _ k hk
theorem ringY_one (k : ℕ) (hk : k = 1) : (ringY c X FT W2 k : sProp 𝕄)
    = iprop((aheadY c (bk 10 k) ∗ bigSep (Ring.aheadSet (k + 1)) (aheadY c)) ∗ freeY c (sl 2 k) ∗ inflY c X FT W2 (sl 2 (k + 1)) (bk 10 (k - 1))) := by
  unfold ringY; rw [Ring.AtBΦ_lt _ _ _ _ _ k (by omega)]; exact Ring.AtB22_one' _ _ _ _ k hk (by decide)
theorem ringY_one_next (k : ℕ) (hk : k = 1) : (ringY c X FT W2 (k + 1) : sProp 𝕄)
    = iprop(bigSep (Ring.aheadSet (k + 1)) (aheadY c) ∗ inflY c X FT W2 (sl 2 (k + 1)) (bk 10 (k - 1)) ∗ inflY c X FT W2 (sl 2 k) (bk 10 k)) := by
  unfold ringY; rw [Ring.AtBΦ_lt _ _ _ _ _ (k + 1) (by omega)]; exact Ring.AtB22_next_one' _ _ _ _ k hk
theorem ringY_here (k : ℕ) (h2 : 2 ≤ k) (h : k < 10) : (ringY c X FT W2 k : sProp 𝕄)
    = iprop((aheadY c (bk 10 k) ∗ bigSep (Ring.aheadSet (k + 1)) (aheadY c)) ∗ bigSep (Ring.behindSet 2 k) (behindY c (yAll X FT W2))
        ∗ inflY c X FT W2 (sl 2 k) (bk 10 (k - 2)) ∗ inflY c X FT W2 (sl 2 (k + 1)) (bk 10 (k - 1))) := by
  unfold ringY; rw [Ring.AtBΦ_lt _ _ _ _ _ k h]; exact Ring.AtB22_here _ _ _ _ k h2 h
theorem ringY_next (k : ℕ) (h2 : 2 ≤ k) (h : k + 1 < 10) : (ringY c X FT W2 (k + 1) : sProp 𝕄)
    = iprop(bigSep (Ring.aheadSet (k + 1)) (aheadY c) ∗ (behindY c (yAll X FT W2) (bk 10 (k - 2)) ∗ bigSep (Ring.behindSet 2 k) (behindY c (yAll X FT W2)))
        ∗ inflY c X FT W2 (sl 2 (k + 1)) (bk 10 (k - 1)) ∗ inflY c X FT W2 (sl 2 k) (bk 10 k)) := by
  unfold ringY; rw [Ring.AtBΦ_lt _ _ _ _ _ (k + 1) h]; exact Ring.AtB22_next _ _ _ _ k h2 (by omega)
theorem ringY_last (k : ℕ) (hk : k = 9) : (ringY c X FT W2 k : sProp 𝕄)
    = iprop(aheadY c (bk 10 k) ∗ bigSep (Ring.behindSet 2 k) (behindY c (yAll X FT W2))
        ∗ inflY c X FT W2 (sl 2 k) (bk 10 (k - 2)) ∗ inflY c X FT W2 (sl 2 (k + 1)) (bk 10 (k - 1))) := by
  unfold ringY; rw [Ring.AtBΦ_lt _ _ _ _ _ k (by omega)]; exact Ring.AtB22_here_last _ _ _ _ k (by omega) (by omega)
theorem ringY_end (k : ℕ) (hk : k = 9) : (ringY c X FT W2 (k + 1) : sProp 𝕄)
    = iprop((behindY c (yAll X FT W2) (bk 10 k) ∗ behindY c (yAll X FT W2) (bk 10 (k - 2)) ∗ behindY c (yAll X FT W2) (bk 10 (k - 1))
          ∗ bigSep (Ring.behindSet 2 k) (behindY c (yAll X FT W2)))
        ∗ freeY c (sl 2 k) ∗ freeY c (sl 2 (k + 1))) := by
  unfold ringY; rw [Ring.AtBΦ_end _ _ _ _ _ (k + 1) (by omega)]; exact Ring.AtB22_drained _ _ k (by omega) (by omega)

theorem tables_zero (k : ℕ) (hk : k = 0) : (tables c FT W2 k : sProp 𝕄)
    = iprop((∃ f, (Memref.whole cc0_scratch4).view.loc (c : Thread nD τ) ↦[(Memref.whole cc0_scratch4).view.set]{fullShare} f)
      ∗ (∃ f, (Memref.whole cc0_scratch6).view.loc (c : Thread nD τ) ↦[(Memref.whole cc0_scratch6).view.set]{fullShare} f)) := if_pos hk
theorem tables_pos (k : ℕ) (hk : 1 ≤ k) : (tables c FT W2 k : sProp 𝕄) = tabs c FT W2 := if_neg (by omega)

/-! ## Each step -/

/-- A step takes what is held before it to what is held after it. -/
def StepOK (t : Fin grid0.N) : Prop := ∀ (W : Waits sig Unit) (Q : PUnit → sProp 𝕄),
  iprop(owes (c : Thread nD τ) 0 W ∗ Inv c X W2 A2 A3 A6 t.val ∗ ((∃ W', owes (c : Thread nD τ) 0 W') ∗ Inv c X W2 A2 A3 A6 (t.val + 1) -∗ Q ⟨⟩))
    ⊢ wp frame (wpE (defs₀ (F := F)) 𝒱₀ (c : Thread nD τ) none) Set.univ (bodyG t) Q

theorem step_zero (t : Fin grid0.N) (h0 : t.val = 0) : StepOK (F := F) c X W2 A2 A3 A6 t := by
  intro W Q
  unfold Inv
  rw [ringX_zero c X t.val h0, ringX_one c X t.val h0, ringY_zero c X _ W2 t.val h0, ringY_zero_next c X _ W2 t.val h0,
    tables_zero c _ W2 t.val h0, tables_pos c _ W2 (t.val + 1) (by omega)]
  unfold side
  iintro ⟨HW, ⟨⟨⟨H0, H1, H2, HH⟩, HF0, HF1, HF2⟩, ⟨⟨Ha, HA⟩, Hy0, Hy1⟩, ⟨HS4, HS6⟩, Hc, HV2, HV3, HV5, HV6, HS2, HS3, HS5⟩, HQ⟩
  iapply (zeroRun c X W2 t h0 W A2 A3 A6 Q)
  isplitl [HW]; · iexact HW
  isplitl [H0]; · iapply (entails_of_eq (congrArg (homeX c X) (show bk 10 t.val = 0 by rw [h0]; decide))); iexact H0
  isplitl [H1]; · iapply (entails_of_eq (congrArg (homeX c X) (show bk 10 (t.val + 1) = 1 by rw [h0]; decide))); iexact H1
  isplitl [H2]; · iexact H2
  isplitl [HF0]; · iapply (entails_of_eq (congrArg (fun s => freeX c s) (show sl 3 t.val = 0 by rw [h0]; decide))); iexact HF0
  isplitl [HF1]; · iapply (entails_of_eq (congrArg (fun s => freeX c s) (show sl 3 (t.val + 1) = 1 by rw [h0]; decide))); iexact HF1
  isplitl [HF2]; · iexact HF2
  isplitl [Ha]; · iexact Ha
  isplitl [Hy0]; · iexact Hy0
  isplitl [Hc]; · iexact Hc
  isplitl [HV2]; · iexact HV2
  isplitl [HV3]; · iexact HV3
  isplitl [HV5]; · iexact HV5
  isplitl [HV6]; · iexact HV6
  isplitl [HS2]; · iexact HS2
  isplitl [HS3]; · iexact HS3
  isplitl [HS4]; · iexact HS4
  isplitl [HS5]; · iexact HS5
  isplitl [HS6]; · iexact HS6
  iintro ⟨HW, H0, HI1, HI2, HF0, HO, HT, Hc, HV2, HV3, HV5, HV6, HS2, HS3, HS5⟩
  iapply HQ
  isplitl [HW]; · iexact HW
  isplitl [H0 HH HI1 HI2 HF0]
  · isplitl [H0 HH]
    · isplitl [H0]; · iexact H0
      iexact HH
    isplitl [HI1]; · iexact HI1
    isplitl [HI2]; · iexact HI2
    iexact HF0
  isplitl [HA Hy1 HO]
  · isplitl [HA]; · iexact HA
    isplitl [Hy1]; · iexact Hy1
    iexact HO
  isplitl [HT]; · iexact HT
  isplitl [Hc]; · iexact Hc
  isplitl [HV2]; · iexact HV2
  isplitl [HV3]; · iexact HV3
  isplitl [HV5]; · iexact HV5
  isplitl [HV6]; · iexact HV6
  isplitl [HS2]; · iexact HS2
  isplitl [HS3]; · iexact HS3
  iexact HS5

theorem step_one (t : Fin grid0.N) (h1 : t.val = 1) : StepOK (F := F) c X W2 A2 A3 A6 t := by
  intro W Q
  unfold Inv
  rw [ringX_here c X t.val (by omega) (by omega), ringX_next c X t.val (by omega), ringY_one c X _ W2 t.val h1, ringY_one_next c X _ W2 t.val h1,
    tables_pos c _ W2 t.val (by omega), tables_pos c _ W2 (t.val + 1) (by omega)]
  iintro ⟨HW, ⟨⟨⟨H2, HH⟩, HI0, HI1, HF2⟩, ⟨⟨Ha, HA⟩, Hy0, Hy1⟩, HT, HS⟩, HQ⟩
  iapply (oneRun c X _ W2 t h1 W Q)
  isplitl [HW]; · iexact HW
  isplitl [H2]; · iexact H2
  isplitl [HI0]; · iexact HI0
  isplitl [HF2]; · iexact HF2
  isplitl [Ha]; · iexact Ha
  isplitl [Hy0]; · iexact Hy0
  isplitl [HT]; · iexact HT
  iintro ⟨HW, H0, HI2, HF0, HO, HT⟩
  iapply HQ
  isplitl [HW]; · iexact HW
  isplitl [H0 HH HI1 HI2 HF0]
  · isplitl [H0 HH]
    · isplitl [H0]; · iexact H0
      iexact HH
    isplitl [HI1]; · iexact HI1
    isplitl [HI2]; · iexact HI2
    iexact HF0
  isplitl [HA Hy1 HO]
  · isplitl [HA]; · iexact HA
    isplitl [Hy1]; · iexact Hy1
    iexact HO
  isplitl [HT]; · iexact HT
  iexact HS

theorem step_mid (t : Fin grid0.N) (h2 : 2 ≤ t.val) (h8 : t.val + 2 < 10) : StepOK (F := F) c X W2 A2 A3 A6 t := by
  intro W Q
  unfold Inv
  rw [ringX_here c X t.val (by omega) h8, ringX_next c X t.val h8, ringY_here c X _ W2 t.val h2 (by omega), ringY_next c X _ W2 t.val h2 (by omega),
    tables_pos c _ W2 t.val (by omega), tables_pos c _ W2 (t.val + 1) (by omega)]
  iintro ⟨HW, ⟨⟨⟨H2, HH⟩, HI0, HI1, HF2⟩, ⟨⟨Ha, HA⟩, HB, Hy0, Hy1⟩, HT, HS⟩, HQ⟩
  iapply (midRun c X _ W2 t h2 h8 W Q)
  isplitl [HW]; · iexact HW
  isplitl [H2]; · iexact H2
  isplitl [HI0]; · iexact HI0
  isplitl [HF2]; · iexact HF2
  isplitl [Ha]; · iexact Ha
  isplitl [Hy0]; · iexact Hy0
  isplitl [HT]; · iexact HT
  iintro ⟨HW, H0, HI2, HF0, HD, HO, HT⟩
  iapply HQ
  isplitl [HW]; · iexact HW
  isplitl [H0 HH HI1 HI2 HF0]
  · isplitl [H0 HH]
    · isplitl [H0]; · iexact H0
      iexact HH
    isplitl [HI1]; · iexact HI1
    isplitl [HI2]; · iexact HI2
    iexact HF0
  isplitl [HA HB HD Hy1 HO]
  · isplitl [HA]; · iexact HA
    isplitl [HB HD]
    · isplitl [HD]; · iexact HD
      iexact HB
    isplitl [Hy1]; · iexact Hy1
    iexact HO
  isplitl [HT]; · iexact HT
  iexact HS

theorem step_eight (t : Fin grid0.N) (h8 : t.val = 8) : StepOK (F := F) c X W2 A2 A3 A6 t := by
  intro W Q
  unfold Inv
  rw [ringX_tail c X t.val (by omega) (by omega), ringX_tail_next c X t.val (by omega) (by omega), ringY_here c X _ W2 t.val (by omega) (by omega), ringY_next c X _ W2 t.val (by omega) (by omega),
    tables_pos c _ W2 t.val (by omega), tables_pos c _ W2 (t.val + 1) (by omega)]
  iintro ⟨HW, ⟨⟨HH, HI0, HI1, HF2⟩, ⟨⟨Ha, HA⟩, HB, Hy0, Hy1⟩, HT, HS⟩, HQ⟩
  iapply (eightRun c X _ W2 t h8 W Q)
  isplitl [HW]; · iexact HW
  isplitl [HI0]; · iexact HI0
  isplitl [Ha]; · iexact Ha
  isplitl [Hy0]; · iexact Hy0
  isplitl [HT]; · iexact HT
  iintro ⟨HW, H0, HF0, HD, HO, HT⟩
  iapply HQ
  isplitl [HW]; · iexact HW
  isplitl [H0 HH HI1 HF2 HF0]
  · isplitl [H0 HH]
    · isplitl [H0]; · iexact H0
      iexact HH
    isplitl [HI1]; · iexact HI1
    isplitl [HF2]; · iexact HF2
    iexact HF0
  isplitl [HA HB HD Hy1 HO]
  · isplitl [HA]; · iexact HA
    isplitl [HB HD]
    · isplitl [HD]; · iexact HD
      iexact HB
    isplitl [Hy1]; · iexact Hy1
    iexact HO
  isplitl [HT]; · iexact HT
  iexact HS

theorem step_nine (t : Fin grid0.N) (h9 : t.val = 9) : StepOK (F := F) c X W2 A2 A3 A6 t := by
  intro W Q
  unfold Inv
  rw [ringX_tail c X t.val (by omega) (by omega), ringX_tail_next c X t.val (by omega) (by omega), ringY_last c X _ W2 t.val h9, ringY_end c X _ W2 t.val h9,
    tables_pos c _ W2 t.val (by omega), tables_pos c _ W2 (t.val + 1) (by omega)]
  iintro ⟨HW, ⟨⟨HH, HI0, HI1, HF2⟩, ⟨Ha, HB, Hy0, Hy1⟩, HT, HS⟩, HQ⟩
  iapply (nineRun c X _ W2 t h9 W Q)
  isplitl [HW]; · iexact HW
  isplitl [HI0]; · iexact HI0
  isplitl [Ha]; · iexact Ha
  isplitl [Hy0]; · iexact Hy0
  isplitl [Hy1]; · iexact Hy1
  isplitl [HT]; · iexact HT
  iintro ⟨HW, H0, HF0, ⟨HD, HD2, HD1⟩, HO, HO1, HT⟩
  iapply HQ
  isplitl [HW]; · iexact HW
  isplitl [H0 HH HI1 HF2 HF0]
  · isplitl [H0 HH]
    · isplitl [H0]; · iexact H0
      iexact HH
    isplitl [HI1]; · iexact HI1
    isplitl [HF2]; · iexact HF2
    iexact HF0
  isplitl [HB HD HD1 HD2 HO HO1]
  · isplitl [HB HD HD1 HD2]
    · isplitl [HD]; · iexact HD
      isplitl [HD2]; · iexact HD2
      isplitl [HD1]; · iexact HD1
      iexact HB
    isplitl [HO]; · iexact HO
    iexact HO1
  isplitl [HT]; · iexact HT
  iexact HS

/-- Every step. -/
theorem step_all (t : Fin grid0.N) : StepOK (F := F) c X W2 A2 A3 A6 t := by
  have hN : t.val < 10 := Nat.lt_of_lt_of_eq t.isLt N_0
  by_cases h0 : t.val = 0
  · exact step_zero c X W2 A2 A3 A6 t h0
  by_cases h1 : t.val = 1
  · exact step_one c X W2 A2 A3 A6 t h1
  by_cases h8 : t.val = 8
  · exact step_eight c X W2 A2 A3 A6 t h8
  by_cases h9 : t.val = 9
  · exact step_nine c X W2 A2 A3 A6 t h9
  exact step_mid c X W2 A2 A3 A6 t (by omega) (by omega)

end

end Cert.Proof.Rows

end
-- ==== Proof.Blocks.lean ====
/-
  Whole buffers taken apart into the pieces the steps hold, and put together again: `x` and the result into their ten blocks,
  the two rings into their slots.
-/
module

public import proofs.«01_k».proof.Proof.Held
public import Idealize.ShloMosaic.Lib.Ring.WriteBehind

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UC sig nD τ) ℕ

/-! ## Which elements the pieces hold -/

theorem xa_set (b : Fin 10) : (xa b).view.set = (Rect.unit (s := S100000x129) (xaOff b) S5000x129.size (xaOff_inb b)).set := View.set_slice_whole _ _
theorem xc_set (b : Fin 10) : (xc b).view.set = (Rect.unit (s := S100000x129) (xcOff b) S5000x129.size (xcOff_inb b)).set := View.set_slice_whole _ _
theorem yb_set (b : Fin 10) : (yb b).view.set = (Rect.unit (s := S100000x256) (yOff b) S10000x256.size (yOff_inb b)).set := View.set_slice_whole _ _
theorem ob_set (s : Fin 2) : (ob s).view.set = (Rect.unit (s := S2x10000x256) (oOff s) S1x10000x256.size (oOff_inb s)).set :=
  (View.set_reshape _ _).trans (View.set_slice_whole _ _)

/-- The elements of block `b` of `x`. -/
def xB (b : Fin 10) : Finset S100000x129.Idx := Finset.univ.filter fun y => 10000 * b.val ≤ (y 0).val ∧ (y 0).val < 10000 * b.val + 10000
theorem mem_xB (b : Fin 10) (y : S100000x129.Idx) : y ∈ xB b ↔ 10000 * b.val ≤ (y 0).val ∧ (y 0).val < 10000 * b.val + 10000 := by
  simp only [xB, Finset.mem_filter, Finset.mem_univ, true_and]
/-- The elements of block `b` of the result. -/
def yB (b : Fin 10) : Finset S100000x256.Idx := Finset.univ.filter fun y => 10000 * b.val ≤ (y 0).val ∧ (y 0).val < 10000 * b.val + 10000
theorem mem_yB (b : Fin 10) (y : S100000x256.Idx) : y ∈ yB b ↔ 10000 * b.val ≤ (y 0).val ∧ (y 0).val < 10000 * b.val + 10000 := by
  simp only [yB, Finset.mem_filter, Finset.mem_univ, true_and]
/-- The elements of input slot `s`, -/
def sB (s : Fin 3) : Finset S3x10000x129.Idx := Finset.univ.filter fun y => (y 0).val = s.val
theorem mem_sB (s : Fin 3) (y : S3x10000x129.Idx) : y ∈ sB s ↔ (y 0).val = s.val := by
  simp only [sB, Finset.mem_filter, Finset.mem_univ, true_and]
/-- of output slot `s`. -/
def oB (s : Fin 2) : Finset S2x10000x256.Idx := Finset.univ.filter fun y => (y 0).val = s.val
theorem mem_oB (s : Fin 2) (y : S2x10000x256.Idx) : y ∈ oB s ↔ (y 0).val = s.val := by
  simp only [oB, Finset.mem_filter, Finset.mem_univ, true_and]

theorem mem_xa (b : Fin 10) (y : S100000x129.Idx) : y ∈ (Rect.unit (s := S100000x129) (xaOff b) S5000x129.size (xaOff_inb b)).set
    ↔ 10000 * b.val ≤ (y 0).val ∧ (y 0).val < 10000 * b.val + 5000 := by
  rw [Rect.mem_set_unit]
  have h1 : (y 1).val < 129 := (y 1).isLt
  constructor
  · intro H; exact (H 0 : 10000 * b.val ≤ (y 0).val ∧ (y 0).val < 10000 * b.val + 5000)
  · intro H i; fin_cases i
    · exact H
    · show 0 ≤ (y 1).val ∧ (y 1).val < 0 + 129; omega
theorem mem_xc (b : Fin 10) (y : S100000x129.Idx) : y ∈ (Rect.unit (s := S100000x129) (xcOff b) S5000x129.size (xcOff_inb b)).set
    ↔ 10000 * b.val + 5000 ≤ (y 0).val ∧ (y 0).val < 10000 * b.val + 10000 := by
  rw [Rect.mem_set_unit]
  have h1 : (y 1).val < 129 := (y 1).isLt
  constructor
  · intro H; have a0 : 10000 * b.val + 5000 ≤ (y 0).val ∧ (y 0).val < 10000 * b.val + 5000 + 5000 := H 0; omega
  · intro H i; fin_cases i
    · show 10000 * b.val + 5000 ≤ (y 0).val ∧ (y 0).val < 10000 * b.val + 5000 + 5000; omega
    · show 0 ≤ (y 1).val ∧ (y 1).val < 0 + 129; omega

theorem x_halves_disjoint (b : Fin 10) : Disjoint ((xa b).view.set : Finset S100000x129.Idx) ((xc b).view.set : Finset S100000x129.Idx) := by
  have h : Disjoint (Rect.unit (s := S100000x129) (xaOff b) S5000x129.size (xaOff_inb b)).set (Rect.unit (s := S100000x129) (xcOff b) S5000x129.size (xcOff_inb b)).set := by
    rw [Finset.disjoint_left]; intro y h h'; have h1 := (mem_xa b y).1 h; have h2 := (mem_xc b y).1 h'; omega
  exact disjoint_of_eq (xa_set b) (xc_set b) h
theorem x_halves_union (b : Fin 10) : ((xa b).view.set : Finset S100000x129.Idx) ∪ ((xc b).view.set : Finset S100000x129.Idx) = xB b := by
  have h : (Rect.unit (s := S100000x129) (xaOff b) S5000x129.size (xaOff_inb b)).set ∪ (Rect.unit (s := S100000x129) (xcOff b) S5000x129.size (xcOff_inb b)).set = xB b := by
    ext y; rw [Finset.mem_union, mem_xa, mem_xc, mem_xB]; omega
  exact union_of_eq (xa_set b) (xc_set b) rfl h
theorem yb_set_eq (b : Fin 10) : ((yb b).view.set : Finset S100000x256.Idx) = yB b := by
  refine (yb_set b).trans ?_
  ext y; rw [Rect.mem_set_unit, mem_yB]
  have h1 : (y 1).val < 256 := (y 1).isLt
  constructor
  · intro H; exact (H 0 : 10000 * b.val ≤ (y 0).val ∧ (y 0).val < 10000 * b.val + 10000)
  · intro H i; fin_cases i
    · exact H
    · show 0 ≤ (y 1).val ∧ (y 1).val < 0 + 256; omega
theorem sw_set_eq (s : Fin 3) : ((sw s).view.set : Finset S3x10000x129.Idx) = sB s := by
  refine (sw_set s).trans ?_
  ext y; rw [mem_sw, mem_sB]
theorem ob_set_eq (s : Fin 2) : ((ob s).view.set : Finset S2x10000x256.Idx) = oB s := by
  refine (ob_set s).trans ?_
  ext y; rw [Rect.mem_set_unit, mem_oB]
  have h1 : (y 1).val < 10000 := (y 1).isLt
  have h2 : (y 2).val < 256 := (y 2).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 10000; omega
    · show 0 ≤ (y 2).val ∧ (y 2).val < 0 + 256; omega

theorem xB_disjoint : ∀ b b' : Fin 10, b ≠ b' → Disjoint (xB b) (xB b') := by
  intro b b' hne; rw [Finset.disjoint_left]; intro y hy hy'; rw [mem_xB] at hy hy'; exact hne (Fin.ext (by omega))
theorem xB_cover : (Finset.univ : Finset (Fin 10)).biUnion xB = Finset.univ := by
  ext y; simp only [Finset.mem_biUnion, Finset.mem_univ, true_and, iff_true]
  have h : (y 0).val < 100000 := (y 0).isLt
  exact ⟨⟨(y 0).val / 10000, by omega⟩, by rw [mem_xB]; show 10000 * ((y 0).val / 10000) ≤ (y 0).val ∧ (y 0).val < 10000 * ((y 0).val / 10000) + 10000; omega⟩
theorem yB_disjoint : ∀ b b' : Fin 10, b ≠ b' → Disjoint (yB b) (yB b') := by
  intro b b' hne; rw [Finset.disjoint_left]; intro y hy hy'; rw [mem_yB] at hy hy'; exact hne (Fin.ext (by omega))
theorem yB_cover : (Finset.univ : Finset (Fin 10)).biUnion yB = Finset.univ := by
  ext y; simp only [Finset.mem_biUnion, Finset.mem_univ, true_and, iff_true]
  have h : (y 0).val < 100000 := (y 0).isLt
  exact ⟨⟨(y 0).val / 10000, by omega⟩, by rw [mem_yB]; show 10000 * ((y 0).val / 10000) ≤ (y 0).val ∧ (y 0).val < 10000 * ((y 0).val / 10000) + 10000; omega⟩
theorem sB_disjoint : ∀ s s' : Fin 3, s ≠ s' → Disjoint (sB s) (sB s') := by
  intro s s' hne; rw [Finset.disjoint_left]; intro y hy hy'; rw [mem_sB] at hy hy'; exact hne (Fin.ext (hy.symm.trans hy'))
theorem sB_cover : (Finset.univ : Finset (Fin 3)).biUnion sB = Finset.univ := by
  ext y; simp only [Finset.mem_biUnion, Finset.mem_univ, true_and, iff_true]
  have h : (y 0).val < 3 := (y 0).isLt
  exact ⟨⟨(y 0).val, h⟩, by rw [mem_sB]⟩
theorem oB_disjoint : ∀ s s' : Fin 2, s ≠ s' → Disjoint (oB s) (oB s') := by
  intro s s' hne; rw [Finset.disjoint_left]; intro y hy hy'; rw [mem_oB] at hy hy'; exact hne (Fin.ext (hy.symm.trans hy'))
theorem oB_cover : (Finset.univ : Finset (Fin 2)).biUnion oB = Finset.univ := by
  ext y; simp only [Finset.mem_biUnion, Finset.mem_univ, true_and, iff_true]
  have h : (y 0).val < 2 := (y 0).isLt
  exact ⟨⟨(y 0).val, h⟩, by rw [mem_oB]⟩

/-! ## The buffers taken apart and put together -/

section Mem
variable (c : Dev nD) (X : S100000x129.Idx → Elt F .f32) (Y : S100000x256.Idx → Elt F .f32)

theorem bigSep_entails {I : Type} {s : Finset I} {P Q : I → sProp 𝕄} (h : ∀ i ∈ s, P i ⊢ Q i) : bigSep s P ⊢ bigSep s Q := BI.bigSep_mono h

/-- A block of `x` is its two halves, and back. -/
theorem home_of_block (b : Fin 10) : ((c : Thread nD τ).loc main_arg0 ↦[xB b]{fullShare} X : sProp 𝕄) ⊢ homeX c X b :=
  (entails_of_eq (congrArg (fun I : Finset S100000x129.Idx => ((c : Thread nD τ).loc main_arg0 ↦[I]{fullShare} X : sProp 𝕄)) (x_halves_union b).symm)).trans
    (pointsTo_union (ℓ := (c : Thread nD τ).loc main_arg0) (x_halves_disjoint b)).1
theorem block_of_home (b : Fin 10) : homeX c X b ⊢ ((c : Thread nD τ).loc main_arg0 ↦[xB b]{fullShare} X : sProp 𝕄) :=
  (show homeX c X b ⊢ _ from (pointsTo_union (ℓ := (c : Thread nD τ).loc main_arg0) (x_halves_disjoint b)).2).trans
    (entails_of_eq (congrArg (fun I : Finset S100000x129.Idx => ((c : Thread nD τ).loc main_arg0 ↦[I]{fullShare} X : sProp 𝕄)) (x_halves_union b)))

/-- `x` whole is its ten blocks home, and back. -/
theorem x_split : ((c : Thread nD τ).loc main_arg0 ↦{fullShare} X : sProp 𝕄) ⊢ bigSep Finset.univ (homeX c X) :=
  (entails_of_eq (Ring.pointsTo_blocks (ℓ := (c : Thread nD τ).loc main_arg0) xB xB_disjoint xB_cover X)).trans
    (bigSep_entails fun b _ => home_of_block c X b)
theorem x_join : bigSep Finset.univ (homeX c X) ⊢ ((c : Thread nD τ).loc main_arg0 ↦{fullShare} X : sProp 𝕄) :=
  (bigSep_entails fun b _ => block_of_home c X b).trans
    (entails_of_eq (Ring.pointsTo_blocks (ℓ := (c : Thread nD τ).loc main_arg0) xB xB_disjoint xB_cover X).symm)

theorem yb_pts (b : Fin 10) (f : S100000x256.Idx → Elt F .f32) :
    ((yb b).view.loc (c : Thread nD τ) ↦[(yb b).view.set]{fullShare} f : sProp 𝕄) = ((c : Thread nD τ).loc main_v7 ↦[yB b]{fullShare} f) :=
  congrArg (fun I : Finset S100000x256.Idx => ((c : Thread nD τ).loc main_v7 ↦[I]{fullShare} f : sProp 𝕄)) (yb_set_eq b)
/-- The result whole, at anything, is its ten blocks not yet written; -/
theorem y_split (f : S100000x256.Idx → Elt F .f32) : ((c : Thread nD τ).loc main_v7 ↦{fullShare} f : sProp 𝕄) ⊢ bigSep Finset.univ (aheadY c) :=
  (entails_of_eq (Ring.pointsTo_blocks (ℓ := (c : Thread nD τ).loc main_v7) yB yB_disjoint yB_cover f)).trans
    (bigSep_entails fun b _ => by
      unfold aheadY
      iintro H; iexists f; iapply (entails_of_eq (yb_pts c b f).symm); iexact H)
/-- its ten blocks written are the result whole. -/
theorem y_join : bigSep Finset.univ (behindY c Y) ⊢ ((c : Thread nD τ).loc main_v7 ↦{fullShare} Y : sProp 𝕄) :=
  (bigSep_entails fun b _ => show behindY c Y b ⊢ _ from entails_of_eq (yb_pts c b Y)).trans
    (entails_of_eq (Ring.pointsTo_blocks (ℓ := (c : Thread nD τ).loc main_v7) yB yB_disjoint yB_cover Y).symm)

theorem sw_pts (s : Fin 3) (f : S3x10000x129.Idx → Elt F .f32) :
    ((sw s).view.loc (c : Thread nD τ) ↦[(sw s).view.set]{fullShare} f : sProp 𝕄) = ((c : Thread nD τ).loc cc0_scratch0 ↦[sB s]{fullShare} f) :=
  congrArg (fun I : Finset S3x10000x129.Idx => ((c : Thread nD τ).loc cc0_scratch0 ↦[I]{fullShare} f : sProp 𝕄)) (sw_set_eq s)
/-- Two disjoint sets of a buffer's elements, each held at anything, are their union held at something. -/
theorem pts_join_exists {ℓ : Loc nD τ sig} {I J K : Finset (Idx ℓ)} (h : Disjoint I J) (e : I ∪ J = K) :
    iprop((∃ f, ℓ ↦[I]{fullShare} f) ∗ ∃ g, ℓ ↦[J]{fullShare} g) ⊢ (iprop(∃ f, ℓ ↦[K]{fullShare} f) : sProp 𝕄) := by
  subst e
  iintro ⟨⟨%f, Hf⟩, ⟨%g, Hg⟩⟩
  iexists _
  iapply (pointsTo_join (f := f) (g := g) h)
  isplitl [Hf]; · iexact Hf
  iexact Hg
/-- The halves of a slot, each at anything, are the slot at something. -/
theorem slot_whole (s : Fin 3) : slotX c s () ⊢ iprop(∃ f : Buf (Elt F) ((c : Thread nD τ).loc cc0_scratch0), (c : Thread nD τ).loc cc0_scratch0 ↦[sB s]{fullShare} f : sProp 𝕄) :=
  pts_join_exists (ℓ := (c : Thread nD τ).loc cc0_scratch0) (halves_disjoint s) ((halves_union s).trans (sw_set_eq s))

/-- The input ring whole, at anything, is its three slots, and back. -/
theorem ring_split : iprop(∃ f : Buf (Elt F) ((c : Thread nD τ).loc cc0_scratch0), ((c : Thread nD τ).loc cc0_scratch0) ↦{fullShare} f)
    ⊢ (bigSep Finset.univ (fun s => slotX c s ()) : sProp 𝕄) := by
  iintro ⟨%f, H⟩
  iapply (bigSep_entails (s := Finset.univ) fun (s : Fin 3) _ =>
    (entails_of_eq (sw_pts c s f).symm).trans (slot_split c s f))
  iapply (entails_of_eq (Ring.pointsTo_blocks (ℓ := (c : Thread nD τ).loc cc0_scratch0) sB sB_disjoint sB_cover f))
  iexact H
theorem ring_join (f₀ : S3x10000x129.Idx → Elt F .f32) : (bigSep Finset.univ (fun s => slotX c s ()) : sProp 𝕄)
    ⊢ iprop(∃ f : Buf (Elt F) ((c : Thread nD τ).loc cc0_scratch0), ((c : Thread nD τ).loc cc0_scratch0) ↦{fullShare} f) :=
  (bigSep_entails (s := Finset.univ) fun (s : Fin 3) _ => slot_whole c s).trans
    (Ring.pointsTo_blocks_join_exists (ℓ := (c : Thread nD τ).loc cc0_scratch0) sB sB_disjoint sB_cover f₀)

abbrev slotY (s : Fin 2) : sProp 𝕄 := iprop(∃ f, (ob s).view.loc (c : Thread nD τ) ↦[(ob s).view.set]{fullShare} f)
theorem ob_pts (s : Fin 2) (f : S2x10000x256.Idx → Elt F .f32) :
    ((ob s).view.loc (c : Thread nD τ) ↦[(ob s).view.set]{fullShare} f : sProp 𝕄) = ((c : Thread nD τ).loc cc0_scratch1 ↦[oB s]{fullShare} f) :=
  congrArg (fun I : Finset S2x10000x256.Idx => ((c : Thread nD τ).loc cc0_scratch1 ↦[I]{fullShare} f : sProp 𝕄)) (ob_set_eq s)
/-- The output ring whole, at anything, is its two slots, and back. -/
theorem out_split : iprop(∃ f : Buf (Elt F) ((c : Thread nD τ).loc cc0_scratch1), ((c : Thread nD τ).loc cc0_scratch1) ↦{fullShare} f)
    ⊢ (bigSep Finset.univ (slotY c) : sProp 𝕄) :=
  Ring.pieces_split (ℓ := (c : Thread nD τ).loc cc0_scratch1) oB oB_disjoint oB_cover
    (fun s f => ((ob s).view.loc (c : Thread nD τ) ↦[(ob s).view.set]{fullShare} f : sProp 𝕄)) (ob_pts c)
theorem out_join (f₀ : S2x10000x256.Idx → Elt F .f32) : (bigSep Finset.univ (slotY c) : sProp 𝕄)
    ⊢ iprop(∃ f : Buf (Elt F) ((c : Thread nD τ).loc cc0_scratch1), ((c : Thread nD τ).loc cc0_scratch1) ↦{fullShare} f) :=
  Ring.pieces_join (ℓ := (c : Thread nD τ).loc cc0_scratch1) oB oB_disjoint oB_cover
    (fun s f => ((ob s).view.loc (c : Thread nD τ) ↦[(ob s).view.set]{fullShare} f : sProp 𝕄)) (ob_pts c) f₀

end Mem

end Cert.Proof.Rows

end
-- ==== Proof.Run.lean ====
/-
  The launch: what the kernel's ten steps start from and end in, and the run of the whole program — the arguments
  unchanged, the result at what the ten steps wrote, every semaphore back at zero.
-/
module

public import proofs.«01_k».proof.Proof.Steps
public import proofs.«01_k».proof.Proof.Blocks
public import proofs.«01_k».proof.Proof.Gen.KernelIdeal.Launch
public import proofs.«01_k».proof.Proof.Gen.KernelIdeal.Frame
public import Idealize.ShloMosaic.Lib.Pipeline.Routed

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (sl bk)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## What the kernel reads and what it leaves -/

/-- `x`, and the small operands as the host operations leave them. -/
abbrev opX (c : Dev nD) : S100000x129.Idx → Elt F .f32 := V m c main_arg0
abbrev opT (c : Dev nD) : S128x256.Idx → Elt F .f32 := V m c main_v2
abbrev opW1 (c : Dev nD) : S256x256.Idx → Elt F .f32 := V m c main_v3
abbrev opW2 (c : Dev nD) : S128x256.Idx → Elt F .bf16 := V m c main_v5
abbrev opB (c : Dev nD) : S1x256.Idx → Elt F .f32 := V m c main_v6

/-- The result the run leaves. -/
def result (c : Dev nD) : S100000x256.Idx → Elt F .f32 :=
  yAll (opX m c) (k0_pay1 (opT m c) (opW1 m c) (opB m c)) (opW2 m c)

/-- What the buffers the kernel works on hold at the end: the result its value, the others what they held. -/
def ends (c : Dev nD) (b : Ref sig .tc) : Buf (Elt F) ((c : Thread nD τ).loc b) :=
  if h : b = main_v7 then (by subst h; exact result m c) else V m c b
theorem ends_v7 (c : Dev nD) : ends m c main_v7 = result m c := dif_pos rfl
theorem ends_of_ne (c : Dev nD) (b : Ref sig .tc) (h : b ≠ main_v7) : ends m c b = V m c b := dif_neg h

/-! ## The kernel's own semaphores -/

/-- The two arrival semaphores of each input slot, the departure semaphore of each output slot, and the one of the
    first step's copies. -/
abbrev osem : Fin 9 → SemLoc sig := fun
  | 0 => .dma (ca 0).sem | 1 => .dma (ca 1).sem | 2 => .dma (ca 2).sem
  | 3 => .dma (cc 0).sem | 4 => .dma (cc 1).sem | 5 => .dma (cc 2).sem
  | 6 => .dma (co 0).sem | 7 => .dma (co 1).sem | 8 => .dma cc0_scratch10.sem
theorem ownSemFacts : Pipeline.OwnSemFacts cfg0.spec osem := by decide

/-- The buffers the kernel works on in place. -/
abbrev RR : Finset (Ref sig .tc) := {main_arg0, main_v2, main_v3, main_v5, main_v6, main_v7}

theorem whole_pts (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) :=
  congrArg (fun I => ((c : Thread nD τ).loc b ↦[I]{fullShare} f : sProp 𝕄)) (View.set_whole b).symm

theorem loose_pts (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  simp only [whole_pts]

/-- The semaphores at zero, listed. -/
theorem own_list (c : Dev nD) : (Pipeline.ownSems0 (Ix := Unit) (Name := ℕ) (U := Pipeline.UC sig nD τ) (Lvl := ℕ) (Val := Elt F) (τ := τ) osem c : sProp 𝕄)
    = iprop(semVal ((c : Thread nD τ), SemLoc.dma (ca 0).sem) 0 ∗ semVal ((c : Thread nD τ), SemLoc.dma (ca 1).sem) 0 ∗ semVal ((c : Thread nD τ), SemLoc.dma (ca 2).sem) 0
      ∗ semVal ((c : Thread nD τ), SemLoc.dma (cc 0).sem) 0 ∗ semVal ((c : Thread nD τ), SemLoc.dma (cc 1).sem) 0 ∗ semVal ((c : Thread nD τ), SemLoc.dma (cc 2).sem) 0
      ∗ semVal ((c : Thread nD τ), SemLoc.dma (co 0).sem) 0 ∗ semVal ((c : Thread nD τ), SemLoc.dma (co 1).sem) 0 ∗ semVal ((c : Thread nD τ), SemLoc.dma cc0_scratch10.sem) 0) :=
  Pipeline.ownSems0_eq_of_list (c := c) osem [0, 1, 2, 3, 4, 5, 6, 7, 8] (by decide) (by decide)

/-- The buffers worked on in place, listed. -/
theorem routed_list (c : Dev nD) (W : (b : Ref sig .tc) → Buf (Elt F) ((c : Thread nD τ).loc b)) :
    (Pipeline.routed RR c W : sProp 𝕄)
      = iprop((((c : Thread nD τ).loc main_arg0) ↦{fullShare} W main_arg0) ∗ (((c : Thread nD τ).loc main_v2) ↦{fullShare} W main_v2)
        ∗ (((c : Thread nD τ).loc main_v3) ↦{fullShare} W main_v3) ∗ (((c : Thread nD τ).loc main_v5) ↦{fullShare} W main_v5)
        ∗ (((c : Thread nD τ).loc main_v6) ↦{fullShare} W main_v6) ∗ (((c : Thread nD τ).loc main_v7) ↦{fullShare} W main_v7)) :=
  bigSep_eq_bigSepL_of_eq (S := RR) [main_arg0, main_v2, main_v3, main_v5, main_v6, main_v7] (by decide) (by decide)
    (fun b => (((c : Thread nD τ).loc b) ↦{fullShare} W b : sProp 𝕄))

/-! ## The proof data -/

/-- What the kernel holds before step `p`, the generator register included. -/
def held (c : Dev nD) (p : ℕ) : sProp 𝕄 :=
  iprop(Inv c (opX m c) (opW2 m c) (opT m c) (opW1 m c) (opB m c) p ∗ ∃ r, prngReg c r)

def dats (_ : Fin 1) (c : Dev nD) : Dat τ (Elt F) Unit ℕ (Pipeline.UC sig nD τ) ℕ cfg0 c where
  A w := V m c (Pipeline.arrRef cfg0.spec w)
  after w := w.elim0
  Φ t := held m c t.val
  q _ := fullShare
  owed _ := 0

theorem defs_tc : (defs₀ (F := F)) .tc cfg0.body = fun a => bodyG a.1 := rfl
theorem prog_eq (t : Fin cfg0.N) : (defs₀ (F := F)) .tc cfg0.body (cfg0.bodyArgs t (cfg0.slots t)) = bodyG t :=
  (congrFun defs_tc _).trans rfl

set_option backward.isDefEq.respectTransparency.types false in
theorem body_obligation (c : Dev nD) : BodyObligation (dats (F := F) m 0 c) (defs₀ (F := F)) 𝒱₀ () Set.univ := fun t => by
  rw [show (dats m 0 c).Φ t.castSucc = held m c t.val from rfl, show (dats m 0 c).Φ t.succ = held m c (t.val + 1) from rfl]
  unfold Dat.owesAt Pipeline.owesWithin
  rw [show (dats m 0 c).owed t.castSucc = 0 from rfl, show (dats m 0 c).owed t.succ = 0 from rfl]
  unfold held
  iintro ⟨⟨HI, Hp⟩, ⟨%W, -, HW⟩, HE⟩
  sl_rw [prog_eq t]
  iapply (step_all c (opX m c) (opW2 m c) (opT m c) (opW1 m c) (opB m c) t W _)
  isplitl [HW]; · iexact HW
  isplitl [HI]; · iexact HI
  iintro ⟨⟨%W', HW⟩, HI⟩
  isplitl [HI Hp]
  · isplitl [HI]; · iexact HI
    iexact Hp
  isplitl [HW]
  · iexists W'; isplitr; · ipureintro; exact fun _ _ => Or.inl trivial
    iexact HW
  iexact HE

/-! ## Into the first step and out of the last -/

/-- An input slot's semaphores and halves are the slot, free; -/
theorem free_in (c : Dev nD) (s : Fin 3) :
    iprop(semVal ((c : Thread nD τ), SemLoc.dma (ca s).sem) 0 ∗ semVal ((c : Thread nD τ), SemLoc.dma (cc s).sem) 0 ∗ slotX c s ()) ⊢ (freeX c s : sProp 𝕄) := by
  unfold freeX Ring.free cellX
  iintro ⟨Ha, Hc, Hs⟩
  isplitl [Ha Hc]
  · isplitl [Ha]; · iexact Ha
    iexact Hc
  iexists (); iexact Hs
/-- and back. -/
theorem free_out (c : Dev nD) (s : Fin 3) :
    (freeX c s : sProp 𝕄) ⊢ iprop(semVal ((c : Thread nD τ), SemLoc.dma (ca s).sem) 0 ∗ semVal ((c : Thread nD τ), SemLoc.dma (cc s).sem) 0 ∗ slotX c s ()) := by
  unfold freeX Ring.free cellX
  iintro ⟨⟨Ha, Hc⟩, ⟨%_, Hs⟩⟩
  isplitl [Ha]; · iexact Ha
  isplitl [Hc]; · iexact Hc
  iexact Hs

/-- What the launch hands over is what the first step starts from. -/
theorem enter (c : Dev nD) : (Pipeline.Ends cfg0.spec osem RR c (V m c) : sProp 𝕄) ⊢ held m c 0 := by
  unfold Pipeline.Ends held Inv
  rw [routed_list, own_list, scopedRest0_eq, tables_zero c _ _ 0 rfl]
  unfold ringX ringY side
  rw [if_pos rfl, Ring.AtBΦ_lt _ _ _ _ _ 0 (by decide), Ring.AtB_zero]
  unfold Ring.At₀ Ring.AtB₀
  rw [Ring.bigSep_fin3, Ring.bigSep_fin2]
  unfold freeY
  iintro ⟨⟨HX, H2, H3, H5, H6, HY⟩, ⟨Ha0, Ha1, Ha2, Hc0, Hc1, Hc2, Ho0, Ho1, Hs⟩, ⟨S0, S1, S2, S3, S4, S5, S6⟩, Hp⟩
  ihave HX := (x_split c (opX m c)) $$ HX
  ihave HY := (y_split c (V m c main_v7)) $$ HY
  ihave S0 := (ring_split c) $$ S0
  ihave S1 := (out_split c) $$ S1
  ihave S0 := (entails_of_eq (Ring.bigSep_fin3 _)) $$ S0
  ihave S1 := (entails_of_eq (Ring.bigSep_fin2 _)) $$ S1
  icases S0 with ⟨S00, S01, S02⟩
  icases S1 with ⟨S10, S11⟩
  isplitr [Hp]
  · isplitl [HX Ha0 Ha1 Ha2 Hc0 Hc1 Hc2 S00 S01 S02]
    · isplitl [HX]; · iexact HX
      isplitl [Ha0 Hc0 S00]
      · iapply (free_in c 0)
        isplitl [Ha0]; · iexact Ha0
        isplitl [Hc0]; · iexact Hc0
        iexact S00
      isplitl [Ha1 Hc1 S01]
      · iapply (free_in c 1)
        isplitl [Ha1]; · iexact Ha1
        isplitl [Hc1]; · iexact Hc1
        iexact S01
      iapply (free_in c 2)
      isplitl [Ha2]; · iexact Ha2
      isplitl [Hc2]; · iexact Hc2
      iexact S02
    isplitl [HY Ho0 Ho1 S10 S11]
    · isplitl [HY]; · iexact HY
      isplitl [Ho0 S10]
      · isplitl [Ho0]; · iexact Ho0
        iexact S10
      isplitl [Ho1]; · iexact Ho1
      iexact S11
    isplitl [S4 S6]
    · isplitl [S4]
      · iapply (entails_of_eq (loose_pts c cc0_scratch4)); iexact S4
      iapply (entails_of_eq (loose_pts c cc0_scratch6)); iexact S6
    isplitl [Hs]; · iexact Hs
    isplitl [H2]; · iapply (entails_of_eq (whole_pts c main_v2 _)); iexact H2
    isplitl [H3]; · iapply (entails_of_eq (whole_pts c main_v3 _)); iexact H3
    isplitl [H5]; · iapply (entails_of_eq (whole_pts c main_v5 _)); iexact H5
    isplitl [H6]; · iapply (entails_of_eq (whole_pts c main_v6 _)); iexact H6
    isplitl [S2]; · iapply (entails_of_eq (loose_pts c cc0_scratch2)); iexact S2
    isplitl [S3]; · iapply (entails_of_eq (loose_pts c cc0_scratch3)); iexact S3
    iapply (entails_of_eq (loose_pts c cc0_scratch5)); iexact S5
  iexact Hp

/-- What the last step leaves is what the launch takes back, the result in its buffer. -/
theorem leave (c : Dev nD) : held m c 10 ⊢ (Pipeline.Ends cfg0.spec osem RR c (ends m c) : sProp 𝕄) := by
  unfold Pipeline.Ends held Inv
  rw [routed_list, own_list, scopedRest0_eq, tables_pos c _ _ 10 (by decide), ends_v7,
    ends_of_ne m c main_arg0 (by decide), ends_of_ne m c main_v2 (by decide), ends_of_ne m c main_v3 (by decide), ends_of_ne m c main_v5 (by decide), ends_of_ne m c main_v6 (by decide)]
  unfold ringX ringY side tabs
  rw [if_neg (by decide), Ring.AtBΦ_end _ _ _ _ _ 10 rfl]
  unfold Ring.AtBEnd
  rw [Ring.bigSep_fin2]
  unfold freeY
  iintro ⟨⟨HR, ⟨HY, ⟨Ho0, S10⟩, ⟨Ho1, S11⟩⟩, ⟨S6, S4⟩, ⟨Hs, H2, H3, H5, H6, S2, S3, S5⟩⟩, Hp⟩
  ihave HR := (Ring.free3_of_At_last (NB := 10) (homeX c (opX m c)) (cellX c) (slotX c) (flightX c (opX m c))) $$ HR
  icases HR with ⟨HX, HF0, HF1, HF2⟩
  ihave HX := (x_join c (opX m c)) $$ HX
  ihave HY := (y_join c _) $$ HY
  ihave HF0 := (free_out c 0) $$ HF0
  ihave HF1 := (free_out c 1) $$ HF1
  ihave HF2 := (free_out c 2) $$ HF2
  icases HF0 with ⟨Ha0, Hc0, S00⟩
  icases HF1 with ⟨Ha1, Hc1, S01⟩
  icases HF2 with ⟨Ha2, Hc2, S02⟩
  isplitl [HX HY H2 H3 H5 H6]
  · isplitl [HX]; · iexact HX
    isplitl [H2]; · iapply (entails_of_eq (whole_pts c main_v2 _).symm); iexact H2
    isplitl [H3]; · iapply (entails_of_eq (whole_pts c main_v3 _).symm); iexact H3
    isplitl [H5]; · iapply (entails_of_eq (whole_pts c main_v5 _).symm); iexact H5
    isplitl [H6]; · iapply (entails_of_eq (whole_pts c main_v6 _).symm); iexact H6
    iexact HY
  isplitl [Ha0 Ha1 Ha2 Hc0 Hc1 Hc2 Ho0 Ho1 Hs]
  · isplitl [Ha0]; · iexact Ha0
    isplitl [Ha1]; · iexact Ha1
    isplitl [Ha2]; · iexact Ha2
    isplitl [Hc0]; · iexact Hc0
    isplitl [Hc1]; · iexact Hc1
    isplitl [Hc2]; · iexact Hc2
    isplitl [Ho0]; · iexact Ho0
    isplitl [Ho1]; · iexact Ho1
    iexact Hs
  isplitr [Hp]
  · isplitl [S00 S01 S02]
    · iapply (ring_join c (fun _ => V m c main_cst ValueIdx.ix0))
      iapply (entails_of_eq (Ring.bigSep_fin3 _).symm)
      isplitl [S00]; · iexact S00
      isplitl [S01]; · iexact S01
      iexact S02
    isplitl [S10 S11]
    · iapply (out_join c (fun _ => V m c main_cst ValueIdx.ix0))
      iapply (entails_of_eq (Ring.bigSep_fin2 _).symm)
      isplitl [S10]; · iexact S10
      iexact S11
    isplitl [S2]; · iapply (entails_of_eq (loose_pts c cc0_scratch2).symm); iexact S2
    isplitl [S3]; · iapply (entails_of_eq (loose_pts c cc0_scratch3).symm); iexact S3
    isplitl [S4]; · iapply (entails_of_eq (loose_pts c cc0_scratch4).symm); iexists _; iexact S4
    isplitl [S5]; · iapply (entails_of_eq (loose_pts c cc0_scratch5).symm); iexact S5
    iapply (entails_of_eq (loose_pts c cc0_scratch6).symm); iexists _; iexact S6
  iexact Hp

/-! ## The run -/

set_option maxHeartbeats 800000 in
/-- The host operations before the kernel. -/
theorem host : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- How every run ends: the arguments as they were, the result at `result`, and every semaphore at zero. -/
def Ended (r : PUnit × MemSt nD τ sig (Elt F)) : Prop :=
  (∀ c : Dev nD,
    r.2.mem ((c.tc : Thread nD τ).loc main_v7) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

/-- From any memory with zero semaphores every run of the program ends so. -/
theorem run (ρ : Dev nD → PrngReg) : θ_run defs (onTc (τ := τ) (main (F := F))) ⟨m, fun _ => 0, ρ⟩ (Ended m) :=
  Pipeline.θ_run_frame_routed cfgs (dats m) 0 launch0 ownSemFacts defs₀ 𝒱₀ m ρ main
    (hbody := fun c => (body_obligation m c).loose)
    (hshare := fun c => (dats m 0 c).share_full fun _ => rfl)
    (howed := fun _ _ => rfl)
    (V := V m) (hmain := host m) (hA := fun _ _ => rfl) (R := RR) (hR := by decide) (Y := ends m)
    (hin := enter m)
    (hout := fun c => leave m c)
    (Q' := Ended m)
    (hQ' := fun r h => ⟨fun c => ⟨((h.1 c).2.1 main_v7 (by decide)).trans (ends_v7 m c),
      (((h.1 c).2.1 main_arg0 (by decide)).trans (ends_of_ne m c main_arg0 (by decide))).trans (V_main_arg0 m c),
      ((h.1 c).2.2 main_arg1 (by decide)).trans (V_main_arg1 m c),
      ((h.1 c).2.2 main_arg2 (by decide)).trans (V_main_arg2 m c),
      ((h.1 c).2.2 main_arg3 (by decide)).trans (V_main_arg3 m c)⟩, h.2⟩)

end Cert.Proof.Rows

end
-- ==== Proof.Frames.lean ====
/-
  The frames of the kernel: both printed forms of it run to their end with the arguments and the semaphores as they were.
  The two forms are one program under two names, so the run of the one is the run of the other.
-/
module

public import proofs.«01_k».proof.Defs
public import proofs.«01_k».proof.Proof.Gen.Kernel
public import proofs.«01_k».proof.Proof.Gen.Pre_ids_in_table
public import proofs.«01_k».proof.Proof.Run
public import Idealize.ShloMosaic.Lib.Tactic.ProgEq

@[expose] public section

noncomputable section

namespace Cert.Proof

open Idealize.ShloMosaic Idealize.SL.Sem

/-- The frame of the idealized text read at a float type: it ends with its arguments and its semaphores as they were. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- It does, whatever the float type. -/
theorem frameAt (F : FTy → Type) [FloatOps F] : FrameAt F := fun m g _ =>
  (θ_run _ _ _).mono (fun _ h => ⟨fun c => (h.1 c).2, h.2⟩) (Rows.run m g)

/-- The frame of the printed kernel is that of the idealized text at bit patterns. -/
theorem frame_kernel_eq : quiescent_Kernel (hKernel := Cert.Kernel.Gen.facts) = FrameAt Bits := by
  sl_kernel_rfl

/-- The printed kernel's frame. -/
theorem frame_kernel : quiescent_Kernel (hKernel := Cert.Kernel.Gen.facts) := frame_kernel_eq.mpr (frameAt Bits)

/-- The idealized kernel's frame. -/
theorem frame_ideal : quiescent_KernelIdeal (hKernelIdeal := Cert.KernelIdeal.Gen.facts) := fun m g _ =>
  (θ_run _ _ _).mono (fun _ h => ⟨fun c => (h.1 c).2, h.2⟩) (Rows.run m g)

/-- The idealized kernel's frame under the precondition. -/
theorem frame_ideal_pre : quiescent_KernelIdeal_pre_ids_in_table (hKernelIdeal := Cert.KernelIdeal.Gen.facts) (hPre_ids_in_table := Cert.Pre_ids_in_table.Gen.facts) := fun m g _ =>
  (θ_run _ _ _).mono (fun _ h => ⟨fun c => (h.1 c).2, h.2⟩) (Rows.run m g)

end Cert.Proof

end
-- ==== Proof.KernValue.lean ====
/-
  What the kernel computes, entry by entry: the folded table's entry, one step's block at an entry, and the operands
  that the host operations before the kernel make.
-/
module

public import proofs.«01_k».proof.Proof.Run
public import Idealize.ShloMosaic.Lib.Pointwise
public import Idealize.ShloMosaic.Lib.Routing.OpsSet
public import Idealize.ShloMosaic.Lib.StableHlo.Run

@[expose] public section

set_option maxRecDepth 16384

noncomputable section

namespace Cert.Proof.Rows

open Cert.KernelIdeal Cert.KernelIdeal.Gen
open Idealize.ShloMosaic Idealize.SL.Sem
open Idealize.ShloMosaic.TcCoe

/-! ## The two stored values -/

/-- The folded table at an entry: a table row against the first 256 rows of `W`, and the bias. -/
theorem folded_at (T : FVec Ideal S128x256 .f32) (W1 : FVec Ideal S256x256 .f32) (B : FVec Ideal S1x256 .f32) (k : Fin 128) (o : Fin 256) :
    k0_pay1 (F := Ideal) T W1 B (ix2 k o) = (∑ j : Fin 256, T (ix2 k j) * W1 (ix2 j o)) + B (ix2 0 o) := by
  pointwise [k0_pay1]

/-- The comparison of two row numbers as a float: one where they agree, zero elsewhere. -/
theorem hot (a b : ℕ) (ha : a < 2 ^ 32) (hb : b < 2 ^ 32) :
    (FloatOps.sitofp FTy.f32 (BitVec.setWidth 32 (IntOp.cmpi CmpIPredicate.eq (BitVec.ofNat 32 a) (BitVec.ofNat 32 b))) : Ideal .f32)
      = if a = b then (1 : EReal) else 0 := by
  rw [WordCmp.cmpi_eq_ofNat ha hb]
  show (((BitVec.setWidth 32 (BitVec.ofBool (decide (a = b)))).toInt : ℝ) : EReal) = _
  by_cases h : a = b
  · simp [h]
  · simp [h]

/-- A row of such comparisons against a column is the column's entry at the row number. -/
theorem pick (k : Fin 128) (f : Fin 128 → EReal) : (∑ x : Fin 128, (if k.val = x.val then (1 : EReal) else 0) * f x) = f k := by
  rw [Finset.sum_eq_single k (fun b _ hb => by rw [if_neg fun e => hb (Fin.ext e.symm), zero_mul]) (fun h => (h (Finset.mem_univ k)).elim),
    if_pos rfl, one_mul]

/-- A step's block at an entry whose id is `k`: the folded table's row `k`, and the features against the other rows of `W`. -/
theorem block_at (I : FVec Ideal S10000x1 .f32) (X : FVec Ideal S10000x128 .f32) (FT W2 : FVec Ideal S128x256 .bf16) (r : Fin 10000) (o : Fin 256)
    (k : Fin 128) (h : FloatOps.fptosi 32 (I (ix2 r 0)) = BitVec.ofNat 32 k.val) :
    k0_pay2 (F := Ideal) I X FT W2 (ix3 0 r o) = FT (ix2 k o) + ∑ j : Fin 128, X (ix2 r j) * W2 (ix2 j o) := by
  pointwise [k0_pay2]
  rw [h]
  refine congrArg (· + _) (Eq.trans (Finset.sum_congr rfl fun x _ => ?_) (pick k fun x => FT (ix2 x o)))
  exact congrArg (· * (FT (ix2 x o) : EReal)) (hot k.val x.val (by omega) (by omega))

variable (m : (ℓ : Loc nD τ sig) → Buf (Elt Ideal) ℓ) (c : Dev nD)

/-! ## The operands -/

/-- The table on top of zero rows. -/
theorem opT_eq : opT m c = Host.scatter scatter_S128x256_S1_S101x256_01_n_0_0 (fun _ b => b)
    (broadcastInDim S128x256 ![] bcast_S_S128x256 (constant (F := Ideal) S_ .f32 0x00000000#32))
    (broadcastInDim S1 ![] bcast_S_S1 (constantI S_ 32 0#32)) (m ((c : Thread nD τ).loc main_arg1)) := by
  show StableHlo.after hostOps0 (fun b => m (c, b)) main_v2 = _
  after_results_simp <;> rfl

/-- `W`'s first 256 rows. -/
theorem opW1_eq : opW1 m c = extractStridedSlice S256x256 ![0, 0] (m ((c : Thread nD τ).loc main_arg2)) slices_S384x256_S256x256_0_0 := by
  show StableHlo.after hostOps0 (fun b => m (c, b)) main_v3 = _
  after_results_simp <;> rfl

/-- `W`'s other 128 rows. -/
theorem opW2_eq : opW2 m c = truncf (F := Ideal) .bf16 (extractStridedSlice S128x256 ![256, 0] (m ((c : Thread nD τ).loc main_arg2)) slices_S384x256_S128x256_256_0) bitsLt_bf16_f32 := by
  show StableHlo.after hostOps0 (fun b => m (c, b)) main_v5 = _
  after_results_simp <;> rfl

/-- The bias as a row. -/
theorem opB_eq : opB m c = broadcastInDim S1x256 ![1] bcast_S256_S1x256_1 (m ((c : Thread nD τ).loc main_arg3)) := by
  show StableHlo.after hostOps0 (fun b => m (c, b)) main_v6 = _
  after_results_simp <;> rfl

/-- Where an update of the table's buffer lands: at its own row and column. -/
theorem lands (idx : IVec S1 32) (h : ∀ i, idx i = 0#32) (a : Fin 101) (b : Fin 256) (k : Fin 128) (j : Fin 256) :
    scatter_S128x256_S1_S101x256_01_n_0_0.resultIdx? (ix2 a b) idx = some (ix2 k j) ↔ a.val = k.val ∧ b.val = j.val := by
  have hs : ∀ q, scatter_S128x256_S1_S101x256_01_n_0_0.start (ix2 a b) idx q = 0 := fun q => by
    unfold ScatterDims.start
    split
    · rw [h]; rfl
    · rfl
  have h0 : scatter_S128x256_S1_S101x256_01_n_0_0.window (ix2 a b) 0 = a.val := rfl
  have h1 : scatter_S128x256_S1_S101x256_01_n_0_0.window (ix2 a b) 1 = b.val := rfl
  refine (Routing.resultIdx?_ix2 scatter_S128x256_S1_S101x256_01_n_0_0 (ix2 a b) idx k j).trans ?_
  rw [hs, hs, h0, h1]
  omega

/-- A row of the operand that the table has is the table's. -/
theorem opT_at (k : Fin 101) (j : Fin 256) : opT m c (ix2 ⟨k.val, by omega⟩ j) = m ((c : Thread nD τ).loc main_arg1) (ix2 k j) := by
  rw [opT_eq]
  refine Routing.scatter_set_hit _ _ _ _ _ _ (fun i hi => ?_) (ix2 k j) ((lands _ (fun _ => rfl) k j _ j).2 ⟨rfl, rfl⟩)
  rw [eq_ix2 i] at hi ⊢
  have := (lands _ (fun _ => rfl) (i 0) (i 1) _ j).1 hi
  rw [show (i 0 : Fin 101) = k from Fin.ext this.1, show (i 1 : Fin 256) = j from Fin.ext this.2]

/-- An entry of `W`'s first 256 rows, -/
theorem opW1_at (j o : Fin 256) : opW1 m c (ix2 j o) = m ((c : Thread nD τ).loc main_arg2) (ix2 ⟨j.val, by omega⟩ o) := by
  rw [opW1_eq]
  pointwise

/-- of its other 128, -/
theorem opW2_at (j : Fin 128) (o : Fin 256) : opW2 m c (ix2 j o) = m ((c : Thread nD τ).loc main_arg2) (ix2 ⟨256 + j.val, by omega⟩ o) := by
  rw [opW2_eq]
  pointwise

/-- and of the bias. -/
theorem opB_at (o : Fin 256) : opB m c (ix2 0 o) = m ((c : Thread nD τ).loc main_arg3) (ix1 o) := by
  rw [opB_eq]
  pointwise

/-- The kernel's result at an entry whose row's id is row `k` of the table. -/
theorem result_at (r : Fin 100000) (o : Fin 256) (k : Fin 101)
    (h : FloatOps.fptosi 32 (show Ideal .f32 from m ((c : Thread nD τ).loc main_arg0) (ix2 r 0)) = BitVec.ofNat 32 k.val) :
    (result m c (ix2 r o) : EReal)
      = ((∑ j : Fin 256, (show EReal from m ((c : Thread nD τ).loc main_arg1) (ix2 k j)) * (show EReal from m ((c : Thread nD τ).loc main_arg2) (ix2 ⟨j.val, by omega⟩ o)))
          + (show EReal from m ((c : Thread nD τ).loc main_arg3) (ix1 o)))
        + ∑ j : Fin 128, (show EReal from m ((c : Thread nD τ).loc main_arg0) (ix2 r ⟨1 + j.val, by omega⟩))
            * (show EReal from m ((c : Thread nD τ).loc main_arg2) (ix2 ⟨256 + j.val, by omega⟩ o)) := by
  have hr : ∀ q : Fin 129, opX m c (ix2 (xrow ⟨r.val / 10000, by omega⟩ ⟨r.val % 10000, Nat.mod_lt _ (by decide)⟩) q)
      = m ((c : Thread nD τ).loc main_arg0) (ix2 r q) := fun q => by
    rw [show xrow ⟨r.val / 10000, by omega⟩ ⟨r.val % 10000, Nat.mod_lt _ (by decide)⟩ = r from Fin.ext (Nat.div_add_mod r.val 10000)]
    exact congrFun (V_main_arg0 m c) _
  refine (block_at (idsOf (opX m c) ⟨r.val / 10000, by omega⟩) (featsOf (opX m c) ⟨r.val / 10000, by omega⟩) (k0_pay1 (opT m c) (opW1 m c) (opB m c)) (opW2 m c)
    ⟨r.val % 10000, Nat.mod_lt _ (by decide)⟩ o ⟨k.val, by omega⟩ ((congrArg (FloatOps.fptosi (F := Ideal) (φ := .f32) 32) (hr 0)).trans h)).trans ?_
  rw [folded_at]
  refine congrArg₂ (· + ·) (congrArg₂ (· + ·) (Finset.sum_congr rfl fun j _ => ?_) (opB_at m c o)) (Finset.sum_congr rfl fun j _ => ?_)
  · exact congrArg₂ (· * ·) (opT_at m c k j) (opW1_at m c j o)
  · exact congrArg₂ (· * ·) (hr ⟨1 + j.val, by omega⟩) (opW2_at m c j o)

end Cert.Proof.Rows

end
-- ==== Proof.RefValue.lean ====
/-
  What the reference computes, entry by entry: where a row's id is row `k` of the table, entry `(r, o)` of its result is
  the sum of table row `k` against the first 256 rows of `W`, the sum of the row's features against the other 128, and
  the bias.
-/
module

public import proofs.«01_k».proof.Proof.Gen.ReferenceIdeal.Run
public import Idealize.ShloMosaic.Lib.Pointwise
public import Idealize.ShloMosaic.Lib.Routing.Ops

@[expose] public section

set_option maxRecDepth 16384

noncomputable section

namespace Cert.Proof.Ref

open Cert.ReferenceIdeal Cert.ReferenceIdeal.Gen
open Idealize.ShloMosaic Idealize.SL.Sem
open Idealize.ShloMosaic.TcCoe

/-- The ids: `x`'s first column as 32-bit integers. -/
def ids (X : FVec Ideal S100000x129 .f32) : IVec S100000 32 :=
  fptosi 32 (shapeCast S100000 (extractStridedSlice S100000x1 ![0, 0] X slices_S100000x129_S100000x1_0_0) shapeCasts_S100000x1_S100000)

/-- The row numbers that the lookup takes: an id, the table's height added to a negative one. -/
def rows (I : IVec S100000 32) : IVec S100000x1 32 :=
  broadcastInDim S100000x1 ![0] bcast_S100000_S100000x1_0
    (select (cmpi .slt I (broadcastInDim S100000 ![] bcast_S_S100000 (constantI S_ 32 0#32)))
      (addi I (broadcastInDim S100000 ![] bcast_S_S100000 (constantI S_ 32 101#32))) I)

/-- Which rows lie in the table. -/
def good (I : IVec S100000 32) : IVec S100000 1 :=
  Host.reduce IntOp.andi (andi (cmpi .sge (rows I) (broadcastInDim S100000x1 ![] bcast_S_S100000x1 (constantI S_ 32 0#32)))
    (cmpi .sle (rows I) (broadcastInDim S100000x1 ![0, 1] bcast_S1x1_S100000x1_0_1 (broadcastInDim S1x1 ![1] bcast_S1_S1x1_1 (constantI S1 32 100#32)))))
    (constantI S_ 1 1#1) reducesTo_S100000x1_S100000_d1 h_S_

/-- The table's row for each id. -/
def take (T : FVec Ideal S101x256 .f32) (I : IVec S100000 32) : FVec Ideal S100000x256 .f32 :=
  select (broadcastInDim S100000x256 ![0] bcast_S100000_S100000x256_0 (good I))
    (Host.gather gather_S101x256_S100000x1_S100000x256_1_0_n_n_0_1_1256 T (rows I))
    (broadcastInDim S100000x256 ![] bcast_S_S100000x256 (constant S_ .f32 0x7FC00000#32))

/-- The reference's result. -/
def whole (X : FVec Ideal S100000x129 .f32) (T : FVec Ideal S101x256 .f32) (W : FVec Ideal S384x256 .f32) (B : FVec Ideal S256 .f32) :
    FVec Ideal S100000x256 .f32 :=
  addf (Host.dotGeneral dot_S100000x384_S384x256_S100000x256_1_0_0_1_n_n none
      (concatenate S100000x384 1 [⟨S100000x256, take T (ids X)⟩, ⟨S100000x128, extractStridedSlice S100000x128 ![0, 1] X slices_S100000x129_S100000x128_0_1⟩]
        concatenates_S100000x256_S100000x128_S100000x384_d1) W)
    (broadcastInDim S100000x256 ![0, 1] bcast_S1x256_S100000x256_0_1 (broadcastInDim S1x256 ![1] bcast_S256_S1x256_1 B))

/-- An id is its own row's first entry, as an integer. -/
theorem ids_at (X : FVec Ideal S100000x129 .f32) (r : Fin 100000) : ids X (ix1 r) = FloatOps.fptosi 32 (X (ix2 r 0)) := by
  pointwise [ids]

/-- A row number of the table, as a word, is not negative, -/
theorem word_kept : ∀ k : Fin 101, Scalar.select (IntOp.cmpi CmpIPredicate.slt (BitVec.ofNat 32 k.val) 0#32) (IntOp.addi (BitVec.ofNat 32 k.val) 101#32)
    (BitVec.ofNat 32 k.val) = BitVec.ofNat 32 k.val := by decide
/-- and it is at most 100. -/
theorem word_good : ∀ k : Fin 101, IntOp.andi (IntOp.andi (IntOp.cmpi CmpIPredicate.sge (BitVec.ofNat 32 k.val) 0#32)
    (IntOp.cmpi CmpIPredicate.sle (BitVec.ofNat 32 k.val) 100#32)) 1#1 = 1#1 := by decide

/-- A word of the table is its own row number: nothing is added to it. -/
theorem rows_at (I : IVec S100000 32) (r : Fin 100000) (k : Fin 101) (h : I (ix1 r) = BitVec.ofNat 32 k.val) :
    rows I (ix2 r 0) = BitVec.ofNat 32 k.val := by
  pointwise [rows, h]
  exact word_kept k

/-- Such a row lies in the table. -/
theorem good_at (I : IVec S100000 32) (r : Fin 100000) (k : Fin 101) (h : I (ix1 r) = BitVec.ofNat 32 k.val) :
    good I (ix1 r) = 1#1 := by
  pointwise [good]
  rw [Finset.univ_unique, Finset.fold_singleton, show (default : Fin 1) = 0 from rfl, rows_at I r k h]
  exact word_good k

/-- The lookup of such an id is its table row. -/
theorem take_at (T : FVec Ideal S101x256 .f32) (I : IVec S100000 32) (r : Fin 100000) (j : Fin 256) (k : Fin 101)
    (h : I (ix1 r) = BitVec.ofNat 32 k.val) : take T I (ix2 r j) = T (ix2 k j) := by
  have hg := Routing.gather_row gather_S101x256_S100000x1_S100000x256_1_0_n_n_0_1_1256 rfl rfl rfl rfl rfl T (rows I) r j k (rows_at I r k h) (by decide)
  pointwise [take]
  rw [good_at I r k h]
  exact hg

/-- The reference at an entry whose row's id is `k`. -/
theorem whole_at (X : FVec Ideal S100000x129 .f32) (T : FVec Ideal S101x256 .f32) (W : FVec Ideal S384x256 .f32) (B : FVec Ideal S256 .f32)
    (r : Fin 100000) (o : Fin 256) (k : Fin 101) (h : ids X (ix1 r) = BitVec.ofNat 32 k.val) :
    whole X T W B (ix2 r o)
      = ((∑ j : Fin 256, T (ix2 k j) * W (ix2 ⟨j.val, by omega⟩ o)) + ∑ j : Fin 128, X (ix2 r ⟨1 + j.val, by omega⟩) * W (ix2 ⟨256 + j.val, by omega⟩ o))
        + B (ix1 o) := by
  have ht := fun j => take_at T (ids X) r j k h
  pointwise [whole]
  simp only [ht]

end Cert.Proof.Ref

end
-- ==== Proof.Algebra.lean ====
/-
  The kernel's result is the reference's: where the precondition holds every id is a row of the table, and the two
  results agree at every entry, the sums being the same but for their order.
-/
module

public import proofs.«01_k».proof.Defs
public import proofs.«01_k».proof.Proof.KernValue
public import proofs.«01_k».proof.Proof.RefValue
public import proofs.«01_k».proof.Proof.Gen.Pre_ids_in_table
public import Idealize.ShloMosaic.Lib.ReduceAll
public import Idealize.ShloMosaic.Lib.Quiescent

@[expose] public section

set_option maxRecDepth 16384

noncomputable section

namespace Cert.Proof

open Idealize.ShloMosaic Idealize.SL.Sem
open Idealize.ShloMosaic.TcCoe

/-! ## The precondition -/

/-- A word between 0 and 100, as signed comparisons say it, is a row number of the table. -/
theorem word_row (w : BitVec 32) (h : IntOp.andi (IntOp.cmpi CmpIPredicate.sge w 0#32) (IntOp.cmpi CmpIPredicate.sle w 100#32) = 1#1) :
    ∃ k : Fin 101, w = BitVec.ofNat 32 k.val := by
  have h' : (0#32).sle w = true ∧ w.sle 100#32 = true := by
    change BitVec.ofBool ((0#32).sle w) &&& BitVec.ofBool (w.sle 100#32) = 1#1 at h
    revert h
    cases (0#32).sle w <;> cases w.sle 100#32 <;> decide
  have h0 : (0 : ℤ) ≤ w.toInt := by simpa [BitVec.sle] using h'.1
  have h1 : w.toInt ≤ 100 := by simpa [BitVec.sle] using h'.2
  have hn : w.toNat < 101 := by
    rw [BitVec.toInt_eq_toNat_cond] at h0 h1
    have := w.isLt
    split at h0 <;> omega
  exact ⟨⟨w.toNat, hn⟩, BitVec.eq_of_toNat_eq (by simp)⟩

/-- Where the precondition holds, row `r`'s id is a row of the table. -/
theorem id_row (X : FVec Ideal Cert.Pre_ids_in_table.S100000x129 .f32) (T : FVec Ideal Cert.Pre_ids_in_table.S101x256 .f32)
    (W : FVec Ideal Cert.Pre_ids_in_table.S384x256 .f32) (B : FVec Ideal Cert.Pre_ids_in_table.S256 .f32)
    (h : Cert.Pre_ids_in_table.fn (F := Ideal) X T W B = fun _ => 1#1) (r : Fin 100000) :
    ∃ k : Fin 101, FloatOps.fptosi 32 (X (ix2 r 0)) = BitVec.ofNat 32 k.val := by
  have h' := congrFun h ix0
  unfold Cert.Pre_ids_in_table.fn at h'
  have : Subsingleton Cert.Pre_ids_in_table.S_.Idx := ⟨fun a b => funext fun i => i.elim0⟩
  have e := Host.reduce_andi_all _ _ _ _ _ h' (ix1 r)
  pointwise at e
  exact word_row _ e

/-! ## The two results -/

/-- The reference runs to its end with its arguments and its semaphores as they were, and its result at `Ref.whole` of them. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_v9)
            = Ref.whole (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨h, sem_eq_zero_of_no_sems (by decide) r.2⟩) (Cert.ReferenceIdeal.Value.run m g)

/-- Where the precondition holds the reference's term of the kernel's arguments is the kernel's result. -/
theorem same (m : (ℓ : Loc Cert.KernelIdeal.nD Cert.KernelIdeal.τ Cert.KernelIdeal.sig) → Buf (Elt Ideal) ℓ) (c : Dev Cert.KernelIdeal.nD)
    (h : ∀ r : Fin 100000, ∃ k : Fin 101, FloatOps.fptosi 32
      (show Ideal .f32 from m ((c.tc : Thread Cert.KernelIdeal.nD Cert.KernelIdeal.τ).loc Cert.KernelIdeal.main_arg0) (ix2 r 0)) = BitVec.ofNat 32 k.val) :
    Ref.whole (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = Rows.result m c := by
  funext i
  rw [eq_ix2 i]
  obtain ⟨k, hk⟩ := h (i 0)
  refine (Ref.whole_at _ _ _ _ (i 0) (i 1) k ((Ref.ids_at _ (i 0)).trans hk)).trans (Eq.trans ?_ (Rows.result_at m c (i 0) (i 1) k hk).symm)
  exact add_right_comm _ _ _

/-! ## The claims -/

/-- The reference's frame. -/
theorem frame_ref : quiescent_ReferenceIdeal (hReferenceIdeal := Cert.ReferenceIdeal.Gen.facts) := fun m g _ =>
  (θ_run _ _ _).mono (fun _ h => ⟨fun c => (h.1 c).2, h.2⟩) (ref_run m g)

/-- The reference's frame under the precondition. -/
theorem frame_ref_pre : quiescent_ReferenceIdeal_pre_ids_in_table (hReferenceIdeal := Cert.ReferenceIdeal.Gen.facts)
    (hPre_ids_in_table := Cert.Pre_ids_in_table.Gen.facts) := fun m g _ =>
  (θ_run _ _ _).mono (fun _ h => ⟨fun c => (h.1 c).2, h.2⟩) (ref_run m g)

/-- The kernel's result and the reference's are one array of extended reals. -/
theorem algebraic : algebraic_KernelIdeal_ReferenceIdeal_pre_ids_in_table (hKernelIdeal := Cert.KernelIdeal.Gen.facts)
    (hReferenceIdeal := Cert.ReferenceIdeal.Gen.facts) (hPre_ids_in_table := Cert.Pre_ids_in_table.Gen.facts) := fun m g m' g' hpre hargs =>
  ⟨fun c => Rows.result m c,
    (θ_run _ _ _).mono (fun _ h => h.1) (Rows.run m g),
    (θ_run _ _ _).mono (fun _ h c => ⟨(h.1 c).1.trans (by
      rw [(hargs c).1, (hargs c).2.1, (hargs c).2.2.1, (hargs c).2.2.2]
      exact same m c fun r => id_row _ _ _ _ (hpre c) r), (h.1 c).2⟩) (ref_run m' g')⟩

end Cert.Proof

end
-- ==== Proof.lean ====
/-
  The proof of `Cert.Claim`, put together. `Proof/Names` … `Proof/Run` run the kernel and say what it leaves,
  `Proof/Frames` carries that run over to the kernel as printed, `Proof/KernValue` and `Proof/RefValue` read the two
  results entry by entry, and `Proof/Algebra` proves them equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_table
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Everything claimed: the frames of the kernel in both its printed forms, those of the reference, that idealizing replaced
    nothing, and that the kernel's result is the reference's. -/
theorem claim : Cert.Claim := ⟨Cert.Kernel.Gen.facts, Cert.KernelIdeal.Gen.facts, Cert.ReferenceIdeal.Gen.facts, Cert.Pre_ids_in_table.Gen.facts,
  frame_kernel, frame_ideal, frame_ideal_pre, frame_ref, frame_ref_pre, trivial, algebraic⟩

end Cert.Proof

end
